-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_labels [hPre_binary_labels : Cert.Pre_binary_labels.Facts] (m : (ℓ : Loc Cert.KernelIdeal.nD Cert.KernelIdeal.τ Cert.KernelIdeal.sig) → Buf (Elt Ideal) ℓ) : Prop :=
  ∀ c : Dev Cert.KernelIdeal.nD,
    (Cert.Pre_binary_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_labels [hPre_binary_labels : Cert.Pre_binary_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_binary_labels [hKernelIdeal : Cert.KernelIdeal.Facts] [hPre_binary_labels : Cert.Pre_binary_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_binary_labels [hReferenceIdeal : Cert.ReferenceIdeal.Facts] [hPre_binary_labels : Cert.Pre_binary_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_binary_labels [hKernelIdeal : Cert.KernelIdeal.Facts] [hReferenceIdeal : Cert.ReferenceIdeal.Facts] [hPre_binary_labels : Cert.Pre_binary_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_binary_labels : Cert.Pre_binary_labels.Facts),
    quiescent_Kernel (hKernel := hKernel)
    ∧ quiescent_KernelIdeal (hKernelIdeal := hKernelIdeal)
    ∧ quiescent_KernelIdeal_pre_binary_labels (hKernelIdeal := hKernelIdeal) (hPre_binary_labels := hPre_binary_labels)
    ∧ quiescent_ReferenceIdeal (hReferenceIdeal := hReferenceIdeal)
    ∧ quiescent_ReferenceIdeal_pre_binary_labels (hReferenceIdeal := hReferenceIdeal) (hPre_binary_labels := hPre_binary_labels)
    ∧ preserves_Kernel_KernelIdeal
    ∧ algebraic_KernelIdeal_ReferenceIdeal_pre_binary_labels (hKernelIdeal := hKernelIdeal) (hReferenceIdeal := hReferenceIdeal) (hPre_binary_labels := hPre_binary_labels)
-- ==== Pre_binary_labels.lean ====
abbrev S2x2x96x256x256 : Shape := ⟨5, ![2, 2, 96, 256, 256]⟩
abbrev S2x96x256x256 : Shape := ⟨4, ![2, 96, 256, 256]⟩
abbrev S10 : Shape := ⟨1, ![10]⟩
abbrev S_ : Shape := ⟨0, ![]⟩

class Facts : Prop where
  bcast_S_S2x96x256x256 : S_.BroadcastsInDim S2x96x256x256 (![] : Fin 0 → Fin S2x96x256x256.rank)
  reducesTo_S2x96x256x256_S_d0_1_2_3 : S2x96x256x256.ReducesTo [0, 1, 2, 3] S_
  h_S_ : 0 < S_.numel

variable [Facts]

def fn {F : FTy → Type} [FloatOps F] (main_arg0 : FVec F S2x2x96x256x256 .f32) (main_arg1 : IVec S2x96x256x256 32) (main_arg2 : FVec F S10 .f32) : IVec S_ 1 :=
  let main_c : IVec S_ 32 := constantI S_ 32 0#32
  let main_v0 : IVec S2x96x256x256 32 := broadcastInDim S2x96x256x256 ![] bcast_S_S2x96x256x256 main_c
  let main_v1 : IVec S2x96x256x256 1 := cmpi .eq main_arg1 main_v0
  let main_c_0 : IVec S_ 32 := constantI S_ 32 1#32
  let main_v2 : IVec S2x96x256x256 32 := broadcastInDim S2x96x256x256 ![] bcast_S_S2x96x256x256 main_c_0
  let main_v3 : IVec S2x96x256x256 1 := cmpi .eq main_arg1 main_v2
  let main_v4 : IVec S2x96x256x256 1 := ori main_v1 main_v3
  let main_c_1 : IVec S_ 1 := constantI S_ 1 1#1
  let main_v5 : IVec S_ 1 := (fun x v => Host.reduce IntOp.andi x v reducesTo_S2x96x256x256_S_d0_1_2_3 h_S_) main_v4 main_c_1
  main_v5
-- ==== Kernel.lean ====
abbrev S2x2x96x256x256 : Shape := ⟨5, ![2, 2, 96, 256, 256]⟩
abbrev S2x96x256x256 : Shape := ⟨4, ![2, 96, 256, 256]⟩
abbrev S10 : Shape := ⟨1, ![10]⟩
abbrev S2x2x24576x256 : Shape := ⟨4, ![2, 2, 24576, 256]⟩
abbrev S2x24576x256 : Shape := ⟨3, ![2, 24576, 256]⟩
abbrev S2x24x256 : Shape := ⟨3, ![2, 24, 256]⟩
abbrev S1x1x8192x256 : Shape := ⟨4, ![1, 1, 8192, 256]⟩
abbrev S1x8192x256 : Shape := ⟨3, ![1, 8192, 256]⟩
abbrev S1x24x256 : Shape := ⟨3, ![1, 24, 256]⟩
abbrev S1 : Shape := ⟨1, ![1]⟩
abbrev S8x256 : Shape := ⟨2, ![8, 256]⟩
abbrev S1x1x8x256 : Shape := ⟨4, ![1, 1, 8, 256]⟩
abbrev S1x8x256 : Shape := ⟨3, ![1, 8, 256]⟩
abbrev S1x1x256 : Shape := ⟨3, ![1, 1, 256]⟩
abbrev S1x256 : Shape := ⟨2, ![1, 256]⟩
abbrev S256 : Shape := ⟨1, ![256]⟩
abbrev S2x10x256 : Shape := ⟨3, ![2, 10, 256]⟩
abbrev S_ : Shape := ⟨0, ![]⟩
abbrev S2x1x256 : Shape := ⟨3, ![2, 1, 256]⟩
abbrev S2x256 : Shape := ⟨2, ![2, 256]⟩
abbrev S12 : Shape := ⟨1, ![12]⟩
abbrev S11 : Shape := ⟨1, ![11]⟩

abbrev nBuf : Space → Nat
  | .hbm => 52
  | .vmem => 6
  | .smem => 1
  | _ => 0

abbrev bufTy : (tb : Table) → Fin (tcTables nBuf tb) → BufTy
  | .hbm, ⟨0, _⟩ => ⟨S2x2x96x256x256, .f32⟩
  | .hbm, ⟨1, _⟩ => ⟨S2x96x256x256, .i32⟩
  | .hbm, ⟨2, _⟩ => ⟨S10, .f32⟩
  | .hbm, ⟨3, _⟩ => ⟨S2x2x24576x256, .f32⟩
  | .hbm, ⟨4, _⟩ => ⟨S2x24576x256, .i32⟩
  | .hbm, ⟨5, _⟩ => ⟨S2x24x256, .f32⟩
  | .hbm, ⟨6, _⟩ => ⟨S2x10x256, .f32⟩
  | .hbm, ⟨7, _⟩ => ⟨S_, .f32⟩
  | .hbm, ⟨8, _⟩ => ⟨S10, .f32⟩
  | .hbm, ⟨9, _⟩ => ⟨S2x10x256, .f32⟩
  | .hbm, ⟨10, _⟩ => ⟨S_, .f32⟩
  | .hbm, ⟨11, _⟩ => ⟨S10, .f32⟩
  | .hbm, ⟨12, _⟩ => ⟨S2x1x256, .f32⟩
  | .hbm, ⟨13, _⟩ => ⟨S2x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S_, .f32⟩
  | .hbm, ⟨27, _⟩ => ⟨S_, .f32⟩
  | .hbm, ⟨28, _⟩ => ⟨S10, .f32⟩
  | .hbm, ⟨29, _⟩ => ⟨S10, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S12, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S12, .f32⟩
  | .hbm, ⟨40, _⟩ => ⟨S11, .f32⟩
  | .hbm, ⟨41, _⟩ => ⟨S11, .f32⟩
  | .hbm, ⟨42, _⟩ => ⟨S11, .f32⟩
  | .hbm, ⟨43, _⟩ => ⟨S11, .f32⟩
  | .hbm, ⟨44, _⟩ => ⟨S11, .f32⟩
  | .hbm, ⟨45, _⟩ => ⟨S11, .f32⟩
  | .hbm, ⟨46, _⟩ => ⟨S11, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S1x1x8192x256, .f32⟩
  | .local _ .vmem, ⟨1, _⟩ => ⟨S1x1x8192x256, .f32⟩
  | .local _ .vmem, ⟨2, _⟩ => ⟨S1x8192x256, .i32⟩
  | .local _ .vmem, ⟨3, _⟩ => ⟨S1x8192x256, .i32⟩
  | .local _ .vmem, ⟨4, _⟩ => ⟨S1x24x256, .f32⟩
  | .local _ .vmem, ⟨5, _⟩ => ⟨S1x24x256, .f32⟩
  | .local _ .smem, ⟨0, _⟩ => ⟨S10, .f32⟩
  | _, _ => ⟨S2x2x96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

@[reducible] def k0_t1_loop : Scf.Loop 32 :=
  let c0_i32_1 : BitVec 32 := 0#32
  let c1024_i32 : BitVec 32 := 1024#32
  let v14 : BitVec 32 := Scalar.addi c0_i32_1 c1024_i32
  let c1_i32 : BitVec 32 := 1#32
  ⟨c0_i32_1, v14, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c8_i32 : BitVec 32 := 8#32
  let v248 : BitVec 32 := Scalar.muli arg6 c8_i32
  v248
def k0_off1 (k0_t1 : Fin k0_t1_loop.trips) : Fin 4 → Nat :=
  let c0_161 : Index := 0#32
  let c0_162 : Index := 0#32
  let c0_i32_1 : BitVec 32 := 0#32
  let c1_i32 : BitVec 32 := 1#32
  let arg6 : BitVec 32 := Scf.iv c0_i32_1 c1_i32 k0_t1
  let c8_i32 : BitVec 32 := 8#32
  let v248 : BitVec 32 := Scalar.muli arg6 c8_i32
  let v249 : BitVec 32 := v248
  let v250 : Index := Scalar.indexCast v249
  let c0_163 : Index := 0#32
  ![0, 0, v250.toNat, 0]
def k0_off2 (k0_t1 : Fin k0_t1_loop.trips) : Fin 3 → Nat :=
  let c0_164 : Index := 0#32
  let c0_i32_1 : BitVec 32 := 0#32
  let c1_i32 : BitVec 32 := 1#32
  let arg6 : BitVec 32 := Scf.iv c0_i32_1 c1_i32 k0_t1
  let c8_i32 : BitVec 32 := 8#32
  let v248 : BitVec 32 := Scalar.muli arg6 c8_i32
  let v249 : BitVec 32 := v248
  let v253 : Index := Scalar.indexCast v249
  let c0_165 : Index := 0#32
  ![0, v253.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S2x2x96x256x256 : Shape := ⟨5, ![2, 2, 96, 256, 256]⟩
abbrev S2x96x256x256 : Shape := ⟨4, ![2, 96, 256, 256]⟩
abbrev S10 : Shape := ⟨1, ![10]⟩
abbrev S2x96x256x256x2 : Shape := ⟨5, ![2, 96, 256, 256, 2]⟩
abbrev S12582912x2 : Shape := ⟨2, ![12582912, 2]⟩
abbrev S12582912 : Shape := ⟨1, ![12582912]⟩
abbrev S12582912x1 : Shape := ⟨2, ![12582912, 1]⟩
abbrev S_ : Shape := ⟨0, ![]⟩
abbrev S12582912x1x1 : Shape := ⟨3, ![12582912, 1, 1]⟩
abbrev S1 : Shape := ⟨1, ![1]⟩
abbrev S1x1x1 : Shape := ⟨3, ![1, 1, 1]⟩
abbrev S1x12582912 : Shape := ⟨2, ![1, 12582912]⟩
abbrev S10x1 : Shape := ⟨2, ![10, 1]⟩
abbrev S10x12582912 : Shape := ⟨2, ![10, 12582912]⟩
abbrev S10x4 : Shape := ⟨2, ![10, 4]⟩
abbrev S10x12582912x1 : Shape := ⟨3, ![10, 12582912, 1]⟩
abbrev S10x12582912x2 : Shape := ⟨3, ![10, 12582912, 2]⟩
abbrev S10x2x2 : Shape := ⟨3, ![10, 2, 2]⟩
abbrev S10x1x1 : Shape := ⟨3, ![10, 1, 1]⟩
abbrev S10x2 : Shape := ⟨2, ![10, 2]⟩
abbrev S12 : Shape := ⟨1, ![12]⟩
abbrev S11 : Shape := ⟨1, ![11]⟩

abbrev nBuf : Space → Nat
  | .hbm => 132
  | .vmem => 0
  | .smem => 0
  | _ => 0

abbrev hbmTy0_0 (i : Nat) : BufTy := match i % 128 with
  | 0 => ⟨S2x2x96x256x256, .f32⟩
  | 1 => ⟨S2x96x256x256, .i32⟩
  | 2 => ⟨S10, .f32⟩
  | 3 => ⟨S2x96x256x256x2, .f32⟩
  | 4 => ⟨S12582912x2, .f32⟩
  | 5 => ⟨S12582912, .i32⟩
  | 6 => ⟨S12582912x1, .f32⟩
  | 7 => ⟨S12582912x1, .i32⟩
  | 8 => ⟨S_, .f32⟩
  | 9 => ⟨S_, .i32⟩
  | 10 => ⟨S12582912, .f32⟩
  | 11 => ⟨S12582912, .i32⟩
  | 12 => ⟨S_, .i32⟩
  | 13 => ⟨S12582912, .i32⟩
  | 14 => ⟨S12582912, .i32⟩
  | 15 => ⟨S12582912x1, .i32⟩
  | 16 => ⟨S_, .i32⟩
  | 17 => ⟨S12582912x1, .i32⟩
  | 18 => ⟨S12582912x1, .i1⟩
  | 19 => ⟨S_, .i32⟩
  | 20 => ⟨S12582912x1, .i32⟩
  | 21 => ⟨S12582912x1, .i32⟩
  | 22 => ⟨S12582912x1, .i32⟩
  | 23 => ⟨S12582912x1x1, .i32⟩
  | 24 => ⟨S1, .i32⟩
  | 25 => ⟨S_, .i32⟩
  | 26 => ⟨S12582912x1x1, .i32⟩
  | 27 => ⟨S12582912x1x1, .i1⟩
  | 28 => ⟨S1x1x1, .i32⟩
  | 29 => ⟨S12582912x1x1, .i32⟩
  | 30 => ⟨S12582912x1x1, .i1⟩
  | 31 => ⟨S12582912x1x1, .i1⟩
  | 32 => ⟨S_, .i1⟩
  | 33 => ⟨S12582912x1, .i1⟩
  | 34 => ⟨S12582912x1, .f32⟩
  | 35 => ⟨S_, .f32⟩
  | 36 => ⟨S12582912x1, .f32⟩
  | 37 => ⟨S12582912x1, .f32⟩
  | 38 => ⟨S12582912, .f32⟩
  | 39 => ⟨S1x12582912, .f32⟩
  | 40 => ⟨S10x1, .f32⟩
  | 41 => ⟨S10x12582912, .f32⟩
  | 42 => ⟨S10x12582912, .f32⟩
  | 43 => ⟨S10x12582912, .i1⟩
  | 44 => ⟨S1x12582912, .i32⟩
  | 45 => ⟨S_, .i32⟩
  | 46 => ⟨S_, .i32⟩
  | 47 => ⟨S10x12582912, .i32⟩
  | 48 => ⟨S10x12582912, .i32⟩
  | 49 => ⟨S10x12582912, .i32⟩
  | 50 => ⟨S1x12582912, .i32⟩
  | 51 => ⟨S_, .i32⟩
  | 52 => ⟨S1x12582912, .i32⟩
  | 53 => ⟨S1x12582912, .i32⟩
  | 54 => ⟨S10x12582912, .i32⟩
  | 55 => ⟨S10x12582912, .i32⟩
  | 56 => ⟨S_, .f32⟩
  | 57 => ⟨S10x4, .f32⟩
  | 58 => ⟨S10, .i32⟩
  | 59 => ⟨S10x1, .i32⟩
  | 60 => ⟨S_, .i32⟩
  | 61 => ⟨S10x1, .i32⟩
  | 62 => ⟨S10x1, .i1⟩
  | 63 => ⟨S_, .i32⟩
  | 64 => ⟨S10x1, .i32⟩
  | 65 => ⟨S10x1, .i32⟩
  | 66 => ⟨S10x1, .i32⟩
  | 67 => ⟨S_, .i32⟩
  | 68 => ⟨S10x12582912, .i32⟩
  | 69 => ⟨S10x12582912, .i1⟩
  | 70 => ⟨S_, .i32⟩
  | 71 => ⟨S10x12582912, .i32⟩
  | 72 => ⟨S10x12582912, .i32⟩
  | 73 => ⟨S10x12582912, .i32⟩
  | 74 => ⟨S10x12582912, .i32⟩
  | 75 => ⟨S10x12582912x1, .i32⟩
  | 76 => ⟨S10x12582912x1, .i32⟩
  | 77 => ⟨S10x12582912x2, .i32⟩
  | 78 => ⟨S_, .f32⟩
  | 79 => ⟨S10x12582912, .f32⟩
  | 80 => ⟨S10x4, .f32⟩
  | 81 => ⟨S10x2x2, .f32⟩
  | 82 => ⟨S10x1x1, .f32⟩
  | 83 => ⟨S10, .f32⟩
  | 84 => ⟨S_, .f32⟩
  | 85 => ⟨S10x2, .f32⟩
  | 86 => ⟨S10x1, .f32⟩
  | 87 => ⟨S10, .f32⟩
  | 88 => ⟨S10, .f32⟩
  | 89 => ⟨S_, .f32⟩
  | 90 => ⟨S10x2, .f32⟩
  | 91 => ⟨S10x1, .f32⟩
  | 92 => ⟨S10, .f32⟩
  | 93 => ⟨S10, .f32⟩
  | 94 => ⟨S_, .f32⟩
  | 95 => ⟨S10, .f32⟩
  | 96 => ⟨S10, .f32⟩
  | 97 => ⟨S10, .f32⟩
  | 98 => ⟨S_, .f32⟩
  | 99 => ⟨S10, .f32⟩
  | 100 => ⟨S10, .f32⟩
  | 101 => ⟨S10, .f32⟩
  | 102 => ⟨S_, .f32⟩
  | 103 => ⟨S10, .f32⟩
  | 104 => ⟨S10, .f32⟩
  | 105 => ⟨S10, .f32⟩
  | 106 => ⟨S_, .f32⟩
  | 107 => ⟨S10, .f32⟩
  | 108 => ⟨S10, .f32⟩
  | 109 => ⟨S10, .f32⟩
  | 110 => ⟨S_, .f32⟩
  | 111 => ⟨S1, .f32⟩
  | 112 => ⟨S_, .f32⟩
  | 113 => ⟨S1, .f32⟩
  | 114 => ⟨S12, .f32⟩
  | 115 => ⟨S_, .f32⟩
  | 116 => ⟨S1, .f32⟩
  | 117 => ⟨S_, .f32⟩
  | 118 => ⟨S1, .f32⟩
  | 119 => ⟨S12, .f32⟩
  | 120 => ⟨S11, .f32⟩
  | 121 => ⟨S11, .f32⟩
  | 122 => ⟨S11, .f32⟩
  | 123 => ⟨S11, .f32⟩
  | 124 => ⟨S11, .f32⟩
  | 125 => ⟨S11, .f32⟩
  | 126 => ⟨S11, .f32⟩
  | 127 => ⟨S_, .f32⟩
  | _ => ⟨S2x2x96x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S2x2x96x256x256, .f32⟩

abbrev hbmTy (i : Nat) : BufTy := match i / 128 with
  | 0 => hbmTy0_0 i
  | 1 => hbmTy0_1 i
  | _ => ⟨S2x2x96x256x256, .f32⟩

abbrev bufTy : (tb : Table) → Fin (tcTables nBuf tb) → BufTy
  | .hbm, ⟨i, _⟩ => hbmTy i
  | _, _ => ⟨S2x2x96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_0 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v16 : Ref sig .tc := ⟨.hbm, 49, rfl⟩
abbrev main_v17 : Ref sig .tc := ⟨.hbm, 50, rfl⟩
abbrev main_c_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_2 : Ref sig .tc := ⟨.hbm, 60, rfl⟩
abbrev main_v25 : Ref sig .tc := ⟨.hbm, 61, rfl⟩
abbrev main_v26 : Ref sig .tc := ⟨.hbm, 62, rfl⟩
abbrev main_c_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_v31 : Ref sig .tc := ⟨.hbm, 69, rfl⟩
abbrev main_c_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_7 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_9 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_11 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_12 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_13 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_v66 : Ref sig .tc := ⟨.hbm, 114, rfl⟩
abbrev main_cst_15 : Ref sig .tc := ⟨.hbm, 115, rfl⟩
abbrev main_v67 : Ref sig .tc := ⟨.hbm, 116, rfl⟩
abbrev main_cst_16 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_17 : Ref sig .tc := ⟨.hbm, 127, rfl⟩
abbrev main_v77 : Ref sig .tc := ⟨.hbm, 128, rfl⟩
abbrev main_cst_18 : Ref sig .tc := ⟨.hbm, 129, rfl⟩
abbrev main_v78 : Ref sig .tc := ⟨.hbm, 130, rfl⟩
abbrev main_v79 : Ref sig .tc := ⟨.hbm, 131, rfl⟩

abbrev nD : Nat := 1
abbrev τ : Topo := Topo.v7x

variable {F : FTy → Type} [FloatOps F]
-- ==== Proof.Arith.lean ====
/- Arithmetic of counts held as extended reals: a count of positives times 4096 plus a count of hits is unpacked by a
   multiplication, a floor and a subtraction. -/
module

public import Idealize.ShloMosaic.Lib.Pipeline.ValueKit

@[expose] public section

set_option maxRecDepth 16384

noncomputable section

namespace Cert.Counts

open Idealize.ShloMosaic

/-- The count `n` as an extended real. -/
def cnt (n : ℕ) : EReal := ((n : ℝ) : EReal)

/-- No voxels count as zero. -/
theorem cnt_zero : cnt 0 = 0 := by simp [cnt]

/-- One voxel counts as one. -/
theorem cnt_one : cnt 1 = 1 := by simp [cnt]

/-- Whether a label is positive, as a number. -/
def pos (w : BitVec 32) : ℕ := if 0 < w.toInt then 1 else 0

/-- Whether a score is above a threshold, as a number. -/
def hit (s t : EReal) : ℕ := if t < s then 1 else 0

/-- Counts add as natural numbers do. -/
theorem cnt_add (a b : ℕ) : cnt a + cnt b = cnt (a + b) := by
  simp only [cnt, Nat.cast_add, EReal.coe_add]

/-- A sum of counts is the count of the sum. -/
theorem cnt_sum {ι : Type} (s : Finset ι) (f : ι → ℕ) : ∑ i ∈ s, cnt (f i) = cnt (∑ i ∈ s, f i) := by
  classical
  induction s using Finset.induction_on with
  | empty => simp [cnt]
  | insert a s ha ih => rw [Finset.sum_insert ha, Finset.sum_insert ha, ih, cnt_add]

/-- Taking a part away from a whole leaves the other part. -/
theorem cnt_sub (a b : ℕ) : cnt (a + b) - cnt a = cnt b := by
  simp only [cnt, ← EReal.coe_sub]
  congr 1
  push_cast
  ring

/-- The word of 1024. -/
theorem bits_1024 : Ideal.ofBits .f32 0x44800000#32 = cnt 1024 := by
  simp [Ideal.ofBits, Ideal.ieee, cnt, -EReal.coe_mul]; norm_num

/-- The word of 4096. -/
theorem bits_4096 : Ideal.ofBits .f32 0x45800000#32 = ((4096 : ℝ) : EReal) := by
  simp [Ideal.ofBits, Ideal.ieee, -EReal.coe_mul]; norm_num

/-- The word of 4097. -/
theorem bits_4097 : Ideal.ofBits .f32 0x45800800#32 = cnt 4097 := by
  simp [Ideal.ofBits, Ideal.ieee, cnt, -EReal.coe_mul]; norm_num

/-- The word of one 4096th. -/
theorem bits_inv : Ideal.ofBits .f32 0x39800000#32 = ((1 / 4096 : ℝ) : EReal) := by
  simp [Ideal.ofBits, Ideal.ieee, -EReal.coe_mul]; norm_num

/-- The count of positives is read out of the packed count by a multiplication and a floor. -/
theorem unpack_high (p q : ℕ) (hp : p < 4096) :
    Ideal.liftRound Int.floor (cnt (p + 4096 * q) * Ideal.ofBits .f32 0x39800000#32) = cnt q := by
  rw [bits_inv, cnt, ← EReal.coe_mul, Ideal.liftRound_coe, cnt]
  congr 1
  have h : ⌊((p + 4096 * q : ℕ) : ℝ) * (1 / 4096)⌋ = (q : ℤ) := by
    rw [Int.floor_eq_iff]
    have h1 : (0 : ℝ) ≤ p := Nat.cast_nonneg p
    have h2 : (p : ℝ) < 4096 := by exact_mod_cast hp
    push_cast
    constructor <;> linarith
  rw [h]
  simp

/-- The count of hits is what is left of the packed count. -/
theorem unpack_low (p q : ℕ) :
    cnt (p + 4096 * q) - Ideal.ofBits .f32 0x45800000#32 * cnt q = cnt p := by
  rw [bits_4096, cnt, cnt, ← EReal.coe_mul, ← EReal.coe_sub, cnt]
  congr 1
  push_cast
  ring

/-- The count of positives among 1024 voxels, from their packed count. -/
theorem unpack_all (q : ℕ) :
    (cnt (1024 + 4096 * q) - Ideal.ofBits .f32 0x44800000#32) * Ideal.ofBits .f32 0x39800000#32 = cnt q := by
  rw [bits_1024, cnt_sub, bits_inv, cnt, ← EReal.coe_mul, cnt]
  congr 1
  push_cast
  ring

end Cert.Counts

end
-- ==== Proof.Trip.lean ====
/- One trip of the kernel's counted loop: each of the eleven carried vectors gains what the trip's chunk of eight rows
   adds to it. -/
module

public import proofs.«01_k».proof.Proof.Gen.KernelIdeal.Frame
public import Idealize.ShloMosaic.Lib.Pipeline.ValueKit
public import proofs.«01_k».proof.Proof.Arith

@[expose] public section

set_option maxRecDepth 16384

noncomputable section

namespace Cert.KernelIdeal.Counts

open Idealize.ShloMosaic Idealize.ShloMosaic.TcCoe Idealize.ShloMosaic.Tactic
open Idealize.SL Idealize.SL.Sem
open Gen Cert.Counts

/-- The loop's carried value: the accumulated weights, then one accumulated vector per threshold. -/
abbrev Acc : Type := FVec Ideal S8x256 .f32 × FVec Ideal S8x256 .f32 × FVec Ideal S8x256 .f32 × FVec Ideal S8x256 .f32
  × FVec Ideal S8x256 .f32 × FVec Ideal S8x256 .f32 × FVec Ideal S8x256 .f32 × FVec Ideal S8x256 .f32
  × FVec Ideal S8x256 .f32 × FVec Ideal S8x256 .f32 × FVec Ideal S8x256 .f32

/-- The carried vector of threshold `j`. -/
def accT (A : Acc) : Fin 10 → FVec Ideal S8x256 .f32 :=
  ![A.2.1, A.2.2.1, A.2.2.2.1, A.2.2.2.2.1, A.2.2.2.2.2.1, A.2.2.2.2.2.2.1, A.2.2.2.2.2.2.2.1, A.2.2.2.2.2.2.2.2.1,
    A.2.2.2.2.2.2.2.2.2.1, A.2.2.2.2.2.2.2.2.2.2]

variable (𝒱 : Variants) (c : Dev nD) (bd : Option 𝒱.V) (i : grid0.Coords)
  (arg2 : Memref sig .tc .smem S10 .f32) (harg2 : arg2.IsWhole) (arg3 : Memref sig .tc .vmem S1x1x8192x256 .f32) (harg3 : arg3.IsWhole)
  (arg4 : Memref sig .tc .vmem S1x8192x256 .i32) (harg4 : arg4.IsWhole) (arg5 : Memref sig .tc .vmem S1x24x256 .f32) (harg5 : arg5.IsWhole)
  (v3 v4 v5 v6 v7 v8 v9 v10 v11 v12 : Elt Ideal .f32)

/-- The chunk of scores trip `k` loads. -/
def ldS (x1 : Vec Ideal S1x1x8192x256 .f32) (k : Fin k0_t1_loop.trips) : Vec Ideal S1x1x8x256 .f32 :=
  View.ld x1 (Rect.unit (s := S1x1x8192x256) (k0_off1 k) S1x1x8x256.size (k0_off1_inb k))

/-- The chunk of labels trip `k` loads. -/
def ldL (x2 : Vec Ideal S1x8192x256 .i32) (k : Fin k0_t1_loop.trips) : Vec Ideal S1x8x256 .i32 :=
  View.ld x2 (Rect.unit (s := S1x8192x256) (k0_off2 k) S1x8x256.size (k0_off2_inb k))

/-- The accumulated weights after a trip. -/
theorem trip_w (x1 : Vec Ideal S1x1x8192x256 .f32) (x2 : Vec Ideal S1x8192x256 .i32) (k : Fin k0_t1_loop.trips) (A : Acc) :
    (tripR_k0_t1 (F := Ideal) 𝒱 c bd i arg2 harg2 arg3 harg3 arg4 harg4 arg5 harg5 v3 v4 v5 v6 v7 v8 v9 v10 v11 v12
      (harg3.unread x1) (harg4.unread x2) k A).1 = k0_pay6 A.1 (ldL x2 k) := by
  unfold tripR_k0_t1 trip_k0_t1 ldL
  obtain ⟨a0, a1, a2, a3, a4, a5, a6, a7, a8, a9, a10⟩ := A
  dsimp only
  sl_unfold_words
  simp only [View.readAt_eq_ld, Memref.IsWhole.read_unread]

/-- The accumulated vector of threshold `j` after a trip. -/
theorem trip_t (x1 : Vec Ideal S1x1x8192x256 .f32) (x2 : Vec Ideal S1x8192x256 .i32) (k : Fin k0_t1_loop.trips) (A : Acc) (j : Fin 10) :
    accT (tripR_k0_t1 (F := Ideal) 𝒱 c bd i arg2 harg2 arg3 harg3 arg4 harg4 arg5 harg5 v3 v4 v5 v6 v7 v8 v9 v10 v11 v12
      (harg3.unread x1) (harg4.unread x2) k A) j
      = k0_pay7 (![v3, v4, v5, v6, v7, v8, v9, v10, v11, v12] j) (accT A j) (ldS x1 k) (ldL x2 k) := by
  unfold tripR_k0_t1 trip_k0_t1 ldL ldS
  obtain ⟨a0, a1, a2, a3, a4, a5, a6, a7, a8, a9, a10⟩ := A
  dsimp only
  sl_unfold_words
  simp only [View.readAt_eq_ld, Memref.IsWhole.read_unread]
  fin_cases j <;> rfl

end Cert.KernelIdeal.Counts

end
-- ==== Proof.Fold.lean ====
/- The kernel's counted loop, run to its end: a lane's carried vectors hold packed counts over the 1024 chunks. -/
module

public import proofs.«01_k».proof.Proof.Trip
public import Idealize.ShloMosaic.Lib.Pointwise
public import Idealize.ShloMosaic.Lib.WordCmp

@[expose] public section

set_option maxRecDepth 16384

noncomputable section

namespace Cert.KernelIdeal.Counts

open Idealize.ShloMosaic Idealize.ShloMosaic.TcCoe Idealize.ShloMosaic.Tactic
open Idealize.SL Idealize.SL.Sem
open Gen Cert.Counts

/-- A voxel's weight. -/
theorem pay5_apply (L : Vec Ideal S1x8x256 .i32) (r : Fin 8) (l : Fin 256) :
    k0_pay5 (F := Ideal) L (ix2 r l) = cnt (1 + 4096 * pos (L (ix3 0 r l))) := by
  unfold k0_pay5 pos
  pointwise
  by_cases h : 0 < (L (ix3 0 r l)).toInt
  · simp [h, Scalar.select, bits_4097, IntOp.cmpi, BitVec.slt]
  · simp [h, Scalar.select, cnt_one, IntOp.cmpi, BitVec.slt]

/-- One threshold's step at a voxel: the weight is added where the score is above the threshold. -/
theorem pay7_apply (v : EReal) (a : FVec Ideal S8x256 .f32) (S : Vec Ideal S1x1x8x256 .f32) (L : Vec Ideal S1x8x256 .i32) (r : Fin 8) (l : Fin 256) :
    k0_pay7 (F := Ideal) v a S L (ix2 r l) = a (ix2 r l) + cnt (hit (S (ix4 0 0 r l)) v * (1 + 4096 * pos (L (ix3 0 r l)))) := by
  unfold k0_pay7 k0_pay4 hit
  pointwise
  congr 1
  by_cases h : v < S (ix4 0 0 r l)
  · simp [h, pay5_apply]
  · simp [h, cnt_zero]

/-- The labels' accumulator takes the weight whatever the score. -/
theorem pay6_apply (a : FVec Ideal S8x256 .f32) (L : Vec Ideal S1x8x256 .i32) (r : Fin 8) (l : Fin 256) :
    k0_pay6 (F := Ideal) a L (ix2 r l) = a (ix2 r l) + cnt (1 + 4096 * pos (L (ix3 0 r l))) := by
  unfold k0_pay6
  pointwise
  rw [pay5_apply]

/-- Row `r` of chunk `k` among the block's 8192 rows. -/
def rowOf (k : ℕ) (r : Fin 8) : Fin 8192 := Fin.ofNat 8192 (8 * k + r.val)

/-- A chunk's scores are the block's, eight rows at a time. -/
theorem ldS_apply (x1 : Vec Ideal S1x1x8192x256 .f32) (k : Fin k0_t1_loop.trips) (r : Fin 8) (l : Fin 256) :
    ldS x1 k (ix4 0 0 r l) = x1 (ix4 0 0 (rowOf k.val r) l) := by
  have hk : k.val < 1024 := Nat.lt_of_lt_of_le k.isLt k0_t1_abs.2.1
  have e (a : Fin 4) : k0_off1 k a = ![0, 0, 8 * k.val, 0] a := congrFun (Gen.k0_off1_eq k) a
  unfold ldS rowOf
  pointwise
  congr 2 <;> apply Fin.ext <;> simp [e, Nat.mod_eq_of_lt (by omega : 8 * k.val + r.val < 8192)]

/-- A chunk's labels are the block's, eight rows at a time. -/
theorem ldL_apply (x2 : Vec Ideal S1x8192x256 .i32) (k : Fin k0_t1_loop.trips) (r : Fin 8) (l : Fin 256) :
    ldL x2 k (ix3 0 r l) = x2 (ix3 0 (rowOf k.val r) l) := by
  have hk : k.val < 1024 := Nat.lt_of_lt_of_le k.isLt k0_t1_abs.2.1
  have e (a : Fin 3) : k0_off2 k a = ![0, 8 * k.val, 0] a := congrFun (Gen.k0_off2_eq k) a
  unfold ldL rowOf
  pointwise
  congr 2 <;> apply Fin.ext <;> simp [e, Nat.mod_eq_of_lt (by omega : 8 * k.val + r.val < 8192)]

variable (𝒱 : Variants) (c : Dev nD) (bd : Option 𝒱.V) (i : grid0.Coords)
  (arg2 : Memref sig .tc .smem S10 .f32) (harg2 : arg2.IsWhole) (arg3 : Memref sig .tc .vmem S1x1x8192x256 .f32) (harg3 : arg3.IsWhole)
  (arg4 : Memref sig .tc .vmem S1x8192x256 .i32) (harg4 : arg4.IsWhole) (arg5 : Memref sig .tc .vmem S1x24x256 .f32) (harg5 : arg5.IsWhole)
  (v3 v4 v5 v6 v7 v8 v9 v10 v11 v12 : Elt Ideal .f32) (x1 : Vec Ideal S1x1x8192x256 .f32) (x2 : Vec Ideal S1x8192x256 .i32)

/-- The all-zero carried value the loop starts from. -/
def acc0 : Acc := (k0_pay14, k0_pay14, k0_pay14, k0_pay14, k0_pay14, k0_pay14, k0_pay14, k0_pay14, k0_pay14, k0_pay14, k0_pay14)

/-- The starting vector is zero everywhere. -/
theorem pay14_apply (r : Fin 8) (l : Fin 256) : k0_pay14 (F := Ideal) (ix2 r l) = 0 := by
  unfold k0_pay14
  pointwise

/-- The loop's carried value before trip `k`, over the whole contents of the two input blocks. -/
abbrev carried (k : ℕ) : Acc := st_k0_t1 (F := Ideal) 𝒱 c bd i arg2 harg2 arg3 harg3 arg4 harg4 arg5 harg5
  v3 v4 v5 v6 v7 v8 v9 v10 v11 v12 (harg3.unread x1) (harg4.unread x2) acc0 k

/-- Before trip `k` the labels' accumulator holds, in each lane, the weights of the first `k` chunks. -/
theorem carried_w (r : Fin 8) (l : Fin 256) (k : ℕ) (hk : k ≤ k0_t1_loop.trips) :
    (carried 𝒱 c bd i arg2 harg2 arg3 harg3 arg4 harg4 arg5 harg5 v3 v4 v5 v6 v7 v8 v9 v10 v11 v12 x1 x2 k).1 (ix2 r l)
      = cnt (∑ q ∈ Finset.range k, (1 + 4096 * pos (x2 (ix3 0 (rowOf q r) l)))) := by
  induction k with
  | zero =>
    unfold carried
    rw [st_k0_t1_zero]
    simp [acc0, pay14_apply, cnt_zero]
  | succ k ih =>
    unfold carried at ih ⊢
    rw [st_k0_t1_succ _ _ _ _ _ _ _ _ _ _ _ _ _ _ _ _ _ _ _ _ _ _ _ _ _ ⟨k, hk⟩, trip_w, pay6_apply, ih (by omega), Finset.sum_range_succ, cnt_add, ldL_apply]

/-- Before trip `k` threshold `j`'s vector holds, in each lane, the weights of the voxels above the threshold among the
first `k` chunks. -/
theorem carried_t (j : Fin 10) (r : Fin 8) (l : Fin 256) (k : ℕ) (hk : k ≤ k0_t1_loop.trips) :
    accT (carried 𝒱 c bd i arg2 harg2 arg3 harg3 arg4 harg4 arg5 harg5 v3 v4 v5 v6 v7 v8 v9 v10 v11 v12 x1 x2 k) j (ix2 r l)
      = cnt (∑ q ∈ Finset.range k, hit (x1 (ix4 0 0 (rowOf q r) l)) (![v3, v4, v5, v6, v7, v8, v9, v10, v11, v12] j)
          * (1 + 4096 * pos (x2 (ix3 0 (rowOf q r) l)))) := by
  induction k with
  | zero =>
    unfold carried
    rw [st_k0_t1_zero]
    fin_cases j <;> simp [acc0, accT, pay14_apply, cnt_zero]
  | succ k ih =>
    unfold carried at ih ⊢
    rw [st_k0_t1_succ _ _ _ _ _ _ _ _ _ _ _ _ _ _ _ _ _ _ _ _ _ _ _ _ _ ⟨k, hk⟩, trip_t, pay7_apply, ih (by omega), Finset.sum_range_succ, cnt_add, ldL_apply, ldS_apply]

end Cert.KernelIdeal.Counts

end
-- ==== Proof.Rows.lean ====
/- What the kernel adds to a row of its output block: the packed counts of a lane are taken apart and summed over the
   eight sublanes. -/
module

public import proofs.«01_k».proof.Proof.Fold

@[expose] public section

set_option maxRecDepth 16384

noncomputable section

namespace Cert.KernelIdeal.Counts

open Idealize.ShloMosaic Idealize.ShloMosaic.TcCoe Idealize.ShloMosaic.Tactic
open Idealize.SL Idealize.SL.Sem
open Gen Cert.Counts

/-- A row that receives the low halves of packed counts. -/
theorem pay29_apply (V : FVec Ideal S8x256 .f32) (row : Vec Ideal S1x1x256 .f32) (l : Fin 256) (p q : Fin 8 → ℕ)
    (hV : ∀ r, V (ix2 r l) = cnt (p r + 4096 * q r)) (hp : ∀ r, p r < 4096) :
    k0_pay29 V row (ix3 0 0 l) = row (ix3 0 0 l) + cnt (∑ r, p r) := by
  unfold k0_pay29 k0_pay28
  pointwise
  congr 1
  rw [← cnt_sum]
  refine Finset.sum_congr rfl fun r _ => ?_
  rw [hV, unpack_high _ _ (hp r), unpack_low]

/-- A row that receives the high halves of packed counts. -/
theorem pay30_apply (V : FVec Ideal S8x256 .f32) (row : Vec Ideal S1x1x256 .f32) (l : Fin 256) (p q : Fin 8 → ℕ)
    (hV : ∀ r, V (ix2 r l) = cnt (p r + 4096 * q r)) (hp : ∀ r, p r < 4096) :
    k0_pay30 V row (ix3 0 0 l) = row (ix3 0 0 l) + cnt (∑ r, q r) := by
  unfold k0_pay30 k0_pay28
  pointwise
  congr 1
  rw [← cnt_sum]
  refine Finset.sum_congr rfl fun r _ => ?_
  rw [hV, unpack_high _ _ (hp r)]

/-- The row that receives the positives of all voxels. -/
theorem pay19_apply (V : FVec Ideal S8x256 .f32) (row : Vec Ideal S1x1x256 .f32) (l : Fin 256) (q : Fin 8 → ℕ)
    (hV : ∀ r, V (ix2 r l) = cnt (1024 + 4096 * q r)) :
    k0_pay19 V row (ix3 0 0 l) = row (ix3 0 0 l) + cnt (∑ r, q r) := by
  unfold k0_pay19
  pointwise
  congr 1
  rw [← cnt_sum]
  refine Finset.sum_congr rfl fun r _ => ?_
  rw [hV, unpack_all]

/-! ## The counts of one block -/

section
variable (x1 : Vec Ideal S1x1x8192x256 .f32) (x2 : Vec Ideal S1x8192x256 .i32) (v : EReal) (l : Fin 256)

/-- The voxels of lane `l`, sublane `r` of a block with score above `v`. -/
def lanePred (r : Fin 8) : ℕ := ∑ q ∈ Finset.range 1024, hit (x1 (ix4 0 0 (rowOf q r) l)) v

/-- Those of them with a positive label. -/
def laneTrue (r : Fin 8) : ℕ := ∑ q ∈ Finset.range 1024, hit (x1 (ix4 0 0 (rowOf q r) l)) v * pos (x2 (ix3 0 (rowOf q r) l))

/-- The voxels of lane `l`, sublane `r` with a positive label. -/
def lanePos (r : Fin 8) : ℕ := ∑ q ∈ Finset.range 1024, pos (x2 (ix3 0 (rowOf q r) l))

/-- A threshold's accumulated weights are its two counts, packed. -/
theorem packed_t (r : Fin 8) :
    ∑ q ∈ Finset.range 1024, hit (x1 (ix4 0 0 (rowOf q r) l)) v * (1 + 4096 * pos (x2 (ix3 0 (rowOf q r) l)))
      = lanePred x1 v l r + 4096 * laneTrue x1 x2 v l r := by
  unfold lanePred laneTrue
  rw [Finset.mul_sum, ← Finset.sum_add_distrib]
  exact Finset.sum_congr rfl fun q _ => by ring

/-- All accumulated weights are the number of chunks and the positives, packed. -/
theorem packed_w (r : Fin 8) :
    ∑ q ∈ Finset.range 1024, (1 + 4096 * pos (x2 (ix3 0 (rowOf q r) l))) = 1024 + 4096 * lanePos x2 l r := by
  unfold lanePos
  rw [Finset.sum_add_distrib, Finset.mul_sum]
  simp

/-- A lane's count does not reach the packing factor. -/
theorem lanePred_lt (r : Fin 8) : lanePred x1 v l r < 4096 := by
  have h : lanePred x1 v l r ≤ ∑ _q ∈ Finset.range 1024, 1 := Finset.sum_le_sum fun q _ => by
    unfold hit; split <;> omega
  simp at h
  omega

/-- What a block adds to row `ρ` of the output at lane `l`: the voxels above threshold `ρ` in rows 0 to 9, the positive
ones of them in rows 10 to 19, all positive ones in row 20. -/
def rowAdd (x0 : Vec Ideal S10 .f32) (ρ : Fin 24) : ℕ :=
  if ρ.val < 10 then ∑ r, lanePred x1 (x0 (ix1 (Fin.ofNat 10 ρ.val))) l r
  else if ρ.val < 20 then ∑ r, laneTrue x1 x2 (x0 (ix1 (Fin.ofNat 10 (ρ.val - 10)))) l r
  else ∑ r, lanePos x2 l r
end

end Cert.KernelIdeal.Counts

end
-- ==== Proof.Blocks.lean ====
/- What the kernel leaves in its output block after one grid point: the block's counts, over zeros at the first point of
   a batch and over what the point before left at the others. -/
module

public import proofs.«01_k».proof.Proof.Rows
public import Idealize.ShloMosaic.Lib.Pipeline.ReadBack

@[expose] public section

set_option maxRecDepth 16384

noncomputable section

namespace Cert.KernelIdeal.Counts

open Idealize.ShloMosaic Idealize.ShloMosaic.TcCoe Idealize.ShloMosaic.Tactic
open Idealize.SL Idealize.SL.Sem
open Gen Cert.Counts

/-! ## The row stores -/

/-- Row `ρ` of the output block lies in the block. -/
theorem row_inb (ρ : ℕ) (hρ : ρ ≤ 20) (a : Fin 3) : (![0, ρ, 0] : Fin 3 → ℕ) a + (![1, 1, 256] : Fin 3 → ℕ) a ≤ S1x24x256.size a := by
  fin_cases a <;> simp <;> omega

/-- The rectangle of row `ρ` of the output block. -/
abbrev rowRect (ρ : ℕ) (hρ : ρ ≤ 20) : Rect S1x24x256 := Rect.unit ![0, ρ, 0] ![1, 1, 256] (row_inb ρ hρ)

/-- An index of a row's rectangle lies at the row, in its own lane. -/
theorem rowRect_emb (ρ : ℕ) (hρ : ρ ≤ 20) (l : Fin 256) : (rowRect ρ hρ).emb (ix3 0 0 l) = ix3 0 (Fin.ofNat 24 ρ) l := by
  refine Rect.emb_eq_of_coords _ _ _ fun a => ?_
  fin_cases a <;> simp [Nat.mod_eq_of_lt (by omega : ρ < 24)]

/-- Every index of a row's rectangle is a lane. -/
theorem rowRect_idx (ρ : ℕ) (hρ : ρ ≤ 20) (x : (rowRect ρ hρ).shape.Idx) : ∃ l : Fin 256, x = ix3 0 0 l :=
  ⟨x 2, by
    funext a
    fin_cases a
    · exact Subsingleton.elim (α := Fin 1) _ _
    · exact Subsingleton.elim (α := Fin 1) _ _
    · rfl⟩

/-- A row loaded from a block. -/
theorem ld_row (Z : Vec Ideal S1x24x256 .f32) (ρ : ℕ) (hρ : ρ ≤ 20) (l : Fin 256) :
    View.ld Z (rowRect ρ hρ) (ix3 0 0 l) = Z (ix3 0 (Fin.ofNat 24 ρ) l) := congrArg Z (rowRect_emb ρ hρ l)

/-- A row's rectangle holds every lane of the row. -/
theorem mem_row (ρ : Fin 24) (hρ : ρ.val ≤ 20) (l : Fin 256) : ix3 0 ρ l ∈ (rowRect ρ.val hρ).set := by
  rw [Rect.mem_set_unit]
  intro a
  fin_cases a <;> simp

/-- The stores of threshold `j` over a block `Z`, newest first: row `10 + j`, then row `j`. -/
def pairStores (A : Acc) (Z : Vec Ideal S1x24x256 .f32) (j : Fin 10) : List (View.Piece (Elt Ideal) S1x24x256 .f32) :=
  [⟨rowRect (10 + j.val) (by omega), k0_pay30 (accT A j) (View.ld Z (rowRect (10 + j.val) (by omega)))⟩,
   ⟨rowRect j.val (by omega), k0_pay29 (accT A j) (View.ld Z (rowRect j.val (by omega)))⟩]

/-- All stores of a grid point, newest first. -/
def stores (A : Acc) (Z : Vec Ideal S1x24x256 .f32) : List (View.Piece (Elt Ideal) S1x24x256 .f32) :=
  ([9, 8, 7, 6, 5, 4, 3, 2, 1, 0] : List (Fin 10)).flatMap (pairStores A Z)
    ++ [⟨rowRect 20 le_rfl, k0_pay19 A.1 (View.ld Z (rowRect 20 le_rfl))⟩]

/-- A carried value that holds the packed counts of a block. -/
structure Holds (A : Acc) (x0 : Vec Ideal S10 .f32) (x1 : Vec Ideal S1x1x8192x256 .f32) (x2 : Vec Ideal S1x8192x256 .i32) : Prop where
  /-- The threshold vectors. -/
  t : ∀ j r l, accT A j (ix2 r l) = cnt (lanePred x1 (x0 (ix1 j)) l r + 4096 * laneTrue x1 x2 (x0 (ix1 j)) l r)
  /-- The vector of all weights. -/
  w : ∀ r l, A.1 (ix2 r l) = cnt (1024 + 4096 * lanePos x2 l r)

section
variable {A : Acc} {x0 : Vec Ideal S10 .f32} {x1 : Vec Ideal S1x1x8192x256 .f32} {x2 : Vec Ideal S1x8192x256 .i32}
  (hA : Holds A x0 x1 x2) (Z : Vec Ideal S1x24x256 .f32)

include hA in
/-- The store of a row of all voxels above a threshold. -/
theorem pred_piece (j : Fin 10) (l : Fin 256) :
    k0_pay29 (accT A j) (View.ld Z (rowRect j.val (by omega))) (ix3 0 0 l)
      = Z (ix3 0 (Fin.ofNat 24 j.val) l) + cnt (rowAdd x1 x2 l x0 (Fin.ofNat 24 j.val)) := by
  refine (pay29_apply _ _ l _ _ (fun r => hA.t j r l) (fun r => lanePred_lt _ _ _ r)).trans ?_
  refine congrArg₂ (· + ·) (ld_row Z _ _ l) (congrArg cnt ?_)
  simp [rowAdd, Nat.mod_eq_of_lt (by omega : j.val < 24)]

include hA in
/-- The store of a row of the positive voxels above a threshold. -/
theorem true_piece (j : Fin 10) (l : Fin 256) :
    k0_pay30 (accT A j) (View.ld Z (rowRect (10 + j.val) (by omega))) (ix3 0 0 l)
      = Z (ix3 0 (Fin.ofNat 24 (10 + j.val)) l) + cnt (rowAdd x1 x2 l x0 (Fin.ofNat 24 (10 + j.val))) := by
  refine (pay30_apply _ _ l _ _ (fun r => hA.t j r l) (fun r => lanePred_lt _ _ _ r)).trans ?_
  refine congrArg₂ (· + ·) (ld_row Z _ _ l) (congrArg cnt ?_)
  simp [rowAdd, Nat.mod_eq_of_lt (by omega : 10 + j.val < 24)]
  intro h
  omega

include hA in
/-- The store of the row of all positive voxels. -/
theorem pos_piece (l : Fin 256) :
    k0_pay19 A.1 (View.ld Z (rowRect 20 le_rfl)) (ix3 0 0 l)
      = Z (ix3 0 (Fin.ofNat 24 20) l) + cnt (rowAdd x1 x2 l x0 (Fin.ofNat 24 20)) := by
  refine (pay19_apply _ _ l _ (fun r => hA.w r l)).trans ?_
  refine congrArg₂ (· + ·) (ld_row Z _ _ l) (congrArg cnt ?_)
  simp [rowAdd]

/-- The value a block's row ends holding, at any index of the block. -/
def goal (x0 : Vec Ideal S10 .f32) (x1 : Vec Ideal S1x1x8192x256 .f32) (x2 : Vec Ideal S1x8192x256 .i32)
    (Z : Vec Ideal S1x24x256 .f32) (y : S1x24x256.Idx) : EReal := Z y + cnt (rowAdd x1 x2 (y 2) x0 (y 1))

/-- A row's store agrees with `goal` if it does lane by lane. -/
theorem piece_eq (ρ : ℕ) (hρ : ρ ≤ 20) (w : (rowRect ρ hρ).shape.Idx → EReal)
    (h : ∀ l : Fin 256, w (ix3 0 0 l) = goal x0 x1 x2 Z (ix3 0 (Fin.ofNat 24 ρ) l)) (x : (rowRect ρ hρ).shape.Idx) :
    w x = goal x0 x1 x2 Z ((rowRect ρ hρ).emb x) := by
  obtain ⟨l, rfl⟩ := rowRect_idx ρ hρ x
  rw [rowRect_emb]
  exact h l

include hA in
/-- Every store puts the block's counts over what its row held. -/
theorem stores_eq (p : View.Piece (Elt Ideal) S1x24x256 .f32) (hp : p ∈ stores A Z) :
    ∀ x : p.1.shape.Idx, p.2 x = goal x0 x1 x2 Z (p.1.emb x) := by
  unfold stores at hp
  rcases List.mem_append.mp hp with hp | hp
  · obtain ⟨j, -, hj⟩ := List.mem_flatMap.mp hp
    rcases List.mem_cons.mp hj with rfl | hj
    · exact piece_eq Z _ (by omega) _ (true_piece hA Z j)
    · obtain rfl := List.mem_singleton.mp hj
      exact piece_eq Z _ (by omega) _ (pred_piece hA Z j)
  · obtain rfl := List.mem_singleton.mp hp
    exact piece_eq Z _ le_rfl _ (pos_piece hA Z)
end

/-- Every row up to row 20 is stored. -/
theorem stores_cover (A : Acc) (Z : Vec Ideal S1x24x256 .f32) (ρ : Fin 24) (hρ : ρ.val ≤ 20) (l : Fin 256) :
    ∃ p ∈ stores A Z, ix3 0 ρ l ∈ p.1.set := by
  have hj (j : Fin 10) : j ∈ ([9, 8, 7, 6, 5, 4, 3, 2, 1, 0] : List (Fin 10)) := by fin_cases j <;> simp
  have hm := mem_row ρ hρ l
  unfold stores
  obtain ⟨ρ, h24⟩ := ρ
  dsimp only at hρ hm
  rcases Nat.lt_or_ge ρ 10 with h | h
  · exact ⟨_, List.mem_append_left _ (List.mem_flatMap.mpr ⟨⟨ρ, h⟩, hj _, List.mem_cons_of_mem _ List.mem_cons_self⟩), hm⟩
  · rcases Nat.lt_or_ge ρ 20 with h' | h'
    · obtain ⟨k, rfl⟩ := Nat.exists_eq_add_of_le h
      exact ⟨_, List.mem_append_left _ (List.mem_flatMap.mpr ⟨⟨k, by omega⟩, hj _, List.mem_cons_self⟩), hm⟩
    · obtain rfl : ρ = 20 := by omega
      exact ⟨_, List.mem_append_right _ List.mem_cons_self, hm⟩

/-! ## A grid point's block -/

variable (c : Dev nD) (i : grid0.Coords)
  (arg2 : Memref sig .tc .smem S10 .f32) (harg2 : arg2.IsWhole) (arg3 : Memref sig .tc .vmem S1x1x8192x256 .f32) (harg3 : arg3.IsWhole)
  (arg4 : Memref sig .tc .vmem S1x8192x256 .i32) (harg4 : arg4.IsWhole) (arg5 : Memref sig .tc .vmem S1x24x256 .f32) (harg5 : arg5.IsWhole)
  (x0 : Vec Ideal S10 .f32) (x1 : Vec Ideal S1x1x8192x256 .f32) (x2 : Vec Ideal S1x8192x256 .i32)

/-- The threshold at place `j`. -/
abbrev thr (j : ℕ) : Elt Ideal .f32 := x0 (ix1 (Fin.ofNat 10 j))

/-- One threshold, loaded from the ten. -/
theorem ld_thr (j : ℕ) (inb : ∀ a, (![j] : Fin 1 → ℕ) a + (![1] : Fin 1 → ℕ) a ≤ S10.size a) (h) :
    View.ld x0 (Rect.unit (s := S10) ![j] ![1] inb) (Shape.Idx.first h) = thr x0 j := by
  have hj : j < 10 := by have := inb 0; simp at this; omega
  refine congrArg x0 (funext fun a => Fin.ext ?_)
  fin_cases a
  simp [Shape.Idx.first, Nat.mod_eq_of_lt hj]

/-- After its last trip the loop, run at the ten thresholds loaded, holds the block's packed counts. -/
theorem final_holds (v0 v1 v2 v3 v4 v5 v6 v7 v8 v9 : Elt Ideal .f32) (h0 : v0 = thr x0 0) (h1 : v1 = thr x0 1) (h2 : v2 = thr x0 2)
    (h3 : v3 = thr x0 3) (h4 : v4 = thr x0 4) (h5 : v5 = thr x0 5) (h6 : v6 = thr x0 6) (h7 : v7 = thr x0 7) (h8 : v8 = thr x0 8)
    (h9 : v9 = thr x0 9) {A : Acc}
    (h : st_k0_t1 (F := Ideal) Variants.none c none i arg2 harg2 arg3 harg3 arg4 harg4 arg5 harg5 v0 v1 v2 v3 v4 v5 v6 v7 v8 v9
      (harg3.unread x1) (harg4.unread x2)
      (k0_pay14, k0_pay14, k0_pay14, k0_pay14, k0_pay14, k0_pay14, k0_pay14, k0_pay14, k0_pay14, k0_pay14, k0_pay14)
      (Scf.trips (0#32) (Scalar.addi 0#32 1024#32) 1#32) = A) : Holds A x0 x1 x2 := by
  subst h h0 h1 h2 h3 h4 h5 h6 h7 h8 h9
  refine ⟨fun j r l => ?_, fun r l => ?_⟩
  · refine (carried_t _ _ _ _ _ _ _ _ _ _ _ _ _ _ _ _ _ _ _ _ _ _ x1 x2 j r l 1024 (by decide)).trans ?_
    rw [← packed_t]
    fin_cases j <;> rfl
  · refine (carried_w _ _ _ _ _ _ _ _ _ _ _ _ _ _ _ _ _ _ _ _ _ _ x1 x2 r l 1024 (by decide)).trans ?_
    rw [packed_w]

/-- The first point of a batch: the block's counts. -/
theorem out_A (hc0 : cond0_0 i) (ρ : Fin 24) (hρ : ρ.val ≤ 20) (l : Fin 256) :
    out0_A_3 (F := Ideal) c i arg2 harg2 arg3 harg3 arg4 harg4 arg5 harg5 hc0 x0 x1 x2 (ix3 0 ρ l)
      = 0 + cnt (rowAdd x1 x2 l x0 ρ) := by
  frame_open
  simp (disch := decide) only [↓ View.readCov_skip, ↓ View.readCov_cons_toLoadRect, ↓ View.readCov_fill]
  frame_out
  generalize hst : st_k0_t1 (F := Ideal) _ _ _ _ _ _ _ _ _ _ _ _ _ _ _ _ _ _ _ _ _ _ _ _ _ _ = A
  have hA : Holds A x0 x1 x2 := final_holds _ _ _ _ _ _ _ _ _ _ x0 x1 x2 _ _ _ _ _ _ _ _ _ _
    (ld_thr x0 0 _ _) (ld_thr x0 1 _ _) (ld_thr x0 2 _ _) (ld_thr x0 3 _ _) (ld_thr x0 4 _ _)
    (ld_thr x0 5 _ _) (ld_thr x0 6 _ _) (ld_thr x0 7 _ _) (ld_thr x0 8 _ _) (ld_thr x0 9 _ _) hst
  have key := View.canon_append_of_pieces (goal x0 x1 x2 (k0_pay13 (F := Ideal)))
    [⟨Rect.unit ![0, 0, 0] ![1, 24, 256] inb_S1x24x256_S1x24x256_0_0_0, (k0_pay13 (F := Ideal))⟩]
    (stores A (k0_pay13 (F := Ideal))) (stores_eq hA (k0_pay13 (F := Ideal))) (ix3 0 ρ l) (stores_cover A (k0_pay13 (F := Ideal)) ρ hρ l)
  have hg : goal x0 x1 x2 (k0_pay13 (F := Ideal)) (ix3 0 ρ l) = 0 + cnt (rowAdd x1 x2 l x0 ρ) := by
    refine congrArg (· + cnt (rowAdd x1 x2 l x0 ρ)) (?_ : (k0_pay13 (F := Ideal)) (ix3 0 ρ l) = 0)
    unfold k0_pay13
    pointwise
  rw [← hg, ← key]
  refine congrArg (fun L => View.canon L (ix3 0 ρ l)) rfl

/-- A later point of a batch: the block's counts over what the point before left. -/
theorem out_B (hc0 : ¬cond0_0 i) (xo3 : Vec Ideal S1x24x256 .f32) (ρ : Fin 24) (hρ : ρ.val ≤ 20) (l : Fin 256) :
    out0_B_3 (F := Ideal) c i arg2 harg2 arg3 harg3 arg4 harg4 arg5 harg5 hc0 x0 x1 x2 xo3 (ix3 0 ρ l)
      = xo3 (ix3 0 ρ l) + cnt (rowAdd x1 x2 l x0 ρ) := by
  frame_out
  generalize hst : st_k0_t1 (F := Ideal) _ _ _ _ _ _ _ _ _ _ _ _ _ _ _ _ _ _ _ _ _ _ _ _ _ _ = A
  have hA : Holds A x0 x1 x2 := final_holds _ _ _ _ _ _ _ _ _ _ x0 x1 x2 _ _ _ _ _ _ _ _ _ _
    (ld_thr x0 0 _ _) (ld_thr x0 1 _ _) (ld_thr x0 2 _ _) (ld_thr x0 3 _ _) (ld_thr x0 4 _ _)
    (ld_thr x0 5 _ _) (ld_thr x0 6 _ _) (ld_thr x0 7 _ _) (ld_thr x0 8 _ _) (ld_thr x0 9 _ _) hst
  exact View.read_writes_apply_of_pieces _ _ _ (stores A xo3) (stores_eq hA xo3) _ (stores_cover A xo3 ρ hρ l)

end Cert.KernelIdeal.Counts

end
-- ==== Proof.Array.lean ====
/- The kernel's output array after the run: each batch's rows hold the counts of its three blocks. -/
module

public import proofs.«01_k».proof.Proof.Blocks

@[expose] public section

set_option maxRecDepth 16384

noncomputable section

namespace Cert.KernelIdeal.Counts

open Idealize.ShloMosaic Idealize.ShloMosaic.TcCoe Idealize.ShloMosaic.Tactic
open Idealize.SL Idealize.SL.Sem
open Gen Cert.Counts

variable (m : (ℓ : Loc nD τ sig) → Buf (Elt Ideal) ℓ) (c : Dev nD)

/-- What grid point `t` adds to row `ρ`, lane `l` of its batch's block. -/
def pointAdd (t : Fin cfg0.N) (ρ : Fin 24) (l : Fin 256) : ℕ :=
  rowAdd (iblk m c 1 t) (iblk m c 2 t) l (iblk m c 0 t) ρ

/-- After a batch's last point its block holds the sums over the batch's three points. -/
theorem outs_last (t : Fin cfg0.N) (ht : t.val % 3 = 2) (ρ : Fin 24) (hρ : ρ.val ≤ 20) (l : Fin 256) :
    outsAt0 m c t.val t.isLt (ix3 0 ρ l)
      = cnt (∑ s : Fin 3, pointAdd m c ⟨3 * (t.val / 3) + s.val, Pipeline.run_point_lt_of_flush t ht s⟩ ρ l) := by
  have h := Pipeline.eq_sum_fin_of_reset_step_apply_of_flush (ι := {ρ : Fin 24 // ρ.val ≤ 20}) (M := EReal)
    (fun n h p => outsAt0 m c n h (ix3 0 p.1 l)) 3 (fun _ => 0) (fun t p => cnt (pointAdd m c t p.1 l))
    (fun t h p => by
      rw [Gen.outsAt0_A m c t h]
      exact out_A _ _ _ _ _ _ _ _ _ _ _ _ _ _ _ p.2 l)
    (fun t h p => by
      rw [Gen.outsAt0_B m c t h]
      exact out_B _ _ _ _ _ _ _ _ _ _ _ _ _ _ _ _ p.2 l) t ht ⟨ρ, hρ⟩
  rw [zero_add, cnt_sum] at h
  exact h

/-- The output block of point `t` is batch `t / 3`'s. -/
theorem index3 : ∀ (t : Fin cfg0.N) (a : Fin 3), (cfg0.win 3).index t a = (![t.val / 3, 0, 0] : Fin 3 → ℕ) a := by decide +kernel

/-- The output array after the run. -/
theorem arr_out (b : Fin 2) (ρ : Fin 24) (hρ : ρ.val ≤ 20) (l : Fin 256) :
    (dats m 0 c).arrAt 3 cfg0.N (ix3 b ρ l)
      = cnt (∑ s : Fin 3, pointAdd m c ⟨3 * b.val + s.val, by have := b.isLt; have := s.isLt; rw [show cfg0.N = 6 from N_0]; omega⟩ ρ l) := by
  refine (dats m 0 c).arrAt_forall_of_cover 3
    (fun i v => ∀ (b : Fin 2) (ρ : Fin 24) (hρ : ρ.val ≤ 20) (l : Fin 256), i = (ix3 b ρ l : S2x24x256.Idx) →
      v = cnt (∑ s : Fin 3, pointAdd m c ⟨3 * b.val + s.val, by have := b.isLt; have := s.isLt; rw [show cfg0.N = 6 from N_0]; omega⟩ ρ l))
    ?_ ?_ _ b ρ hρ l rfl
  · intro t hf y b ρ hρ l hi
    have ht := (flush0_3 t).mp hf
    have h0 := congrArg (fun z : S2x24x256.Idx => (z 0).val) hi
    have h1 := congrArg (fun z : S2x24x256.Idx => (z 1).val) hi
    have h2 := congrArg (fun z : S2x24x256.Idx => (z 2).val) hi
    blk_simp [index3] at h0 h1 h2
    blk_simp
    have e0 : win0_3.index t 0 = t.val / 3 := index3 t 0
    have e1 : win0_3.index t 1 = 0 := index3 t 1
    have e2 : win0_3.index t 2 = 0 := index3 t 2
    rw [e0] at h0
    rw [e1] at h1
    rw [e2] at h2
    have hy : y = (ix3 0 ρ l : S1x24x256.Idx) := by
      funext a
      match a with
      | 0 => exact Subsingleton.elim (α := Fin 1) _ _
      | 1 => exact Fin.ext (by show (y 1).val = ρ.val; omega)
      | 2 => exact Fin.ext (by show (y 2).val = l.val; omega)
    rw [after0_3, hy]
    refine (outs_last m c t ht ρ hρ l).trans (congrArg cnt (Finset.sum_congr rfl fun s _ => ?_))
    congr 1
    exact Fin.ext (by show 3 * (t.val / 3) + s.val = 3 * b.val + s.val; omega)
  · intro i
    exact Pipeline.Window.Covers.cover (cfg0.win 3) (by decide +kernel) (arr_whole0 3) i

/-- The block indices of the two big inputs. -/
theorem index1 : ∀ (t : Fin cfg0.N) (a : Fin 4), (cfg0.win 1).index t a = (![t.val / 3, 1, t.val % 3, 0] : Fin 4 → ℕ) a := by decide +kernel
/-- The label block of point `t`: batch `t / 3`, its block `t % 3`. -/
theorem index2 : ∀ (t : Fin cfg0.N) (a : Fin 3), (cfg0.win 2).index t a = (![t.val / 3, t.val % 3, 0] : Fin 3 → ℕ) a := by decide +kernel
/-- The thresholds are one block. -/
theorem index0 : ∀ (t : Fin cfg0.N) (a : Fin 1), (cfg0.win 0).index t a = (![0] : Fin 1 → ℕ) a := by decide +kernel

/-- Every point sees all thresholds. -/
theorem iblk0 (t : Fin cfg0.N) (j : Fin 10) : iblk m c 0 t (ix1 j) = m ((c.tc : Thread nD τ).loc main_arg2) (ix1 j) := by
  rw [← V_main_arg2 m c]
  blk_ext [iblk, index0 t]

/-- The row of the flat array that row `r` of block `k` is. -/
def rowAt (k : Fin 3) (r : Fin 8192) : Fin 24576 := ⟨k.val * 8192 + r.val, by have := k.isLt; have := r.isLt; omega⟩

/-- The score block of a point is its batch's rows of class one. -/
theorem iblk1 (t : Fin cfg0.N) (r : Fin 8192) (l : Fin 256) (b : Fin 2) (k : Fin 3) (hb : t.val / 3 = b.val) (hk : t.val % 3 = k.val) :
    iblk m c 1 t (ix4 0 0 r l) = V m c main_v0 (ix4 b 1 (rowAt k r) l) := by
  blk_ext [iblk, index1 t, rowAt]

/-- The label block of a point is its batch's rows. -/
theorem iblk2 (t : Fin cfg0.N) (r : Fin 8192) (l : Fin 256) (b : Fin 2) (k : Fin 3) (hb : t.val / 3 = b.val) (hk : t.val % 3 = k.val) :
    iblk m c 2 t (ix3 0 r l) = V m c main_v1 (ix3 b (rowAt k r) l) := by
  blk_ext [iblk, index2 t, rowAt]

/-- The scores reach the grid reshaped to rows. -/
theorem V_main_v0 : V m c main_v0 = shapeCast S2x2x24576x256 (m ((c.tc : Thread nD τ).loc main_arg0)) shapeCasts_S2x2x96x256x256_S2x2x24576x256 := by
  show StableHlo.after hostOps0 _ _ = _
  after_results
  rfl

/-- The labels reach the grid reshaped to rows. -/
theorem V_main_v1 : V m c main_v1 = shapeCast S2x24576x256 (m ((c.tc : Thread nD τ).loc main_arg1)) shapeCasts_S2x96x256x256_S2x24576x256 := by
  show StableHlo.after hostOps0 _ _ = _
  after_results
  rfl

/-- The class-one score of row `R`, lane `l` of batch `b`. -/
def score (X : S2x2x96x256x256.Idx → EReal) (b : Fin 2) (R : Fin 24576) (l : Fin 256) : EReal :=
  X (ix5 b 1 (⟨R.val / 256, by have := R.isLt; omega⟩ : Fin 96) (⟨R.val % 256, Nat.mod_lt _ (by decide)⟩ : Fin 256) l)

/-- The label of row `R`, lane `l` of batch `b`. -/
def label (Y : S2x96x256x256.Idx → BitVec 32) (b : Fin 2) (R : Fin 24576) (l : Fin 256) : BitVec 32 :=
  Y (ix4 b (⟨R.val / 256, by have := R.isLt; omega⟩ : Fin 96) (⟨R.val % 256, Nat.mod_lt _ (by decide)⟩ : Fin 256) l)

/-- A row's score is the score at its depth and height. -/
theorem read_v0 (b : Fin 2) (R : Fin 24576) (l : Fin 256) :
    V m c main_v0 (ix4 b 1 R l) = score (m ((c.tc : Thread nD τ).loc main_arg0)) b R l := by
  rw [V_main_v0]
  refine congrArg (m ((c.tc : Thread nD τ).loc main_arg0)) (Shape.reshapeEquiv_eq_of_rowMajor (s := S2x2x96x256x256) _ ?_)
  rw [Shape.rowMajor_val_four, Shape.rowMajor_val_five]
  show (((b.val * 2 + 1) * 96 + R.val / 256) * 256 + R.val % 256) * 256 + l.val = ((b.val * 2 + 1) * 24576 + R.val) * 256 + l.val
  omega

/-- A row's label is the label at its depth and height. -/
theorem read_v1 (b : Fin 2) (R : Fin 24576) (l : Fin 256) :
    V m c main_v1 (ix3 b R l) = label (m ((c.tc : Thread nD τ).loc main_arg1)) b R l := by
  rw [V_main_v1]
  refine congrArg (m ((c.tc : Thread nD τ).loc main_arg1)) (Shape.reshapeEquiv_eq_of_rowMajor (s := S2x96x256x256) _ ?_)
  rw [Shape.rowMajor_val_three, Shape.rowMajor_val_four]
  show ((b.val * 96 + R.val / 256) * 256 + R.val % 256) * 256 + l.val = (b.val * 24576 + R.val) * 256 + l.val
  omega

end Cert.KernelIdeal.Counts

end
-- ==== Proof.RefRun.lean ====
/- The reference's run, its buffers read off the list of its operations. -/
module

public import proofs.«01_k».proof.Proof.Gen.ReferenceIdeal
public import proofs.«01_k».proof.Proof.Arith
public import Idealize.ShloMosaic.Lib.Claim
public import Idealize.ShloMosaic.Lib.StableHlo.ReadAt
public import Idealize.ShloMosaic.Lib.IdealHost
public import Idealize.ShloMosaic.Lib.Pointwise
public import Idealize.ShloMosaic.Lib.Routing.OpsPair

@[expose] public section

set_option maxRecDepth 16384

noncomputable section

namespace Cert.ReferenceIdeal.Counts

open Idealize.ShloMosaic Idealize.ShloMosaic.TcCoe Idealize.ShloMosaic.Tactic Idealize.ShloMosaic.StableHlo
open Idealize.SL Idealize.SL.Sem
open Cert.Counts Idealize.ShloMosaic.Routing

/-- The reference's operations, in order. -/
def refSeq : {ops : List (HloOp τ sig (Elt Ideal)) // ∀ d, IsSeq (nD := nD) (main (F := Ideal) d) ops} := by
  apply Subtype.mk
  hlo_seq

variable (V : Valuation τ sig (Elt Ideal))

/-- The operations up to the scores of class one. -/
def opsA : List (HloOp τ sig (Elt Ideal)) := refSeq.1.take 36
/-- The operations up to the predicted classes. -/
def opsB : List (HloOp τ sig (Elt Ideal)) := (refSeq.1.drop 36).take 11
/-- The operations up to the scatter's index pairs. -/
def opsC : List (HloOp τ sig (Elt Ideal)) := (refSeq.1.drop 47).take 28
/-- The operations up to the counts. -/
def opsD : List (HloOp τ sig (Elt Ideal)) := (refSeq.1.drop 75).take 3

/-- The index of the largest of one element is zero. -/
theorem argmax_one (X : S12582912x1.Idx → EReal) (u : S_.Idx → EReal) (h1 : S12582912x1.ReducesTo [1] S12582912) (h2 : 0 < S_.numel)
    (j : S12582912.Idx) :
    (Host.argReduce (F := Ideal) (φ := .f32) reducer_argmax_f32_i32 X (iotaInDim S12582912x1 32 1) u (constantI S_ 32 0#32) h1 h2 j).2 = 0#32 := by
  rw [Ideal.argReduce_eq_reduce2, Host.reduce2_eq_foldl_fiber]
  have key : ∀ (l : List (EReal × BitVec 32)) (acc : EReal × BitVec 32), (∀ p ∈ l, p.2 = 0#32) → acc.2 = 0#32 →
      (l.foldl (reducer_argmax_f32_i32 (F := Ideal)) acc).2 = 0#32 := by
    intro l
    induction l with
    | nil => intro acc _ h; exact h
    | cons p l ih =>
      intro acc hl h
      refine ih _ (fun q hq => hl q (List.mem_cons_of_mem _ hq)) ?_
      have hp := hl p List.mem_cons_self
      show Scalar.select _ acc.2 p.2 = 0#32
      rw [h, hp]
      unfold Scalar.select
      split <;> rfl
  refine key _ _ ?_ rfl
  intro p hp
  obtain ⟨n, -, rfl⟩ := List.mem_map.1 hp
  show BitVec.ofNat 32 (S12582912x1.rowMajor.symm n 1).val = 0#32
  have := (S12582912x1.rowMajor.symm n 1).isLt
  have e : (S12582912x1.rowMajor.symm n 1).val = 0 := by
    change _ < 1 at this
    omega
  rw [e]

/-- A gather along the classes at the index one reads class one. -/
theorem gather_one (x : S12582912x2.Idx → EReal) (n : Fin 12582912) :
    Host.gather gather_S12582912x2_S12582912x1x1_S12582912x1_n_1_0_0_1_2_11 x (fun _ => 1#32) (ix2 n 0) = x (ix2 n 1) := by
  unfold Host.gather
  congr 1
  funext a
  refine Fin.ext ?_
  show GatherDims.start _ _ _ a + GatherDims.batchCoord _ _ a + GatherDims.offCoord _ _ a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S12582912x2_S12582912x1x1_S12582912x1_n_1_0_0_1_2_11.operandBatchingDims from List.mem_singleton.mpr rfl)]
    rfl
  | 1 =>
    rw [GatherDims.batchCoord_eq_zero _ _ _ (fun h => by cases h with | tail _ h => cases h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S12582912x2_S12582912x1x1_S12582912x1_n_1_0_0_1_2_11.startIndexMap from List.mem_singleton.mpr rfl)]
    rfl

/-- Every voxel's predicted class, when over the threshold, is one. -/
theorem read_v6 (n : Fin 12582912) : after opsA V (Proc.devRef .tc main_v6) (ix1 n) = 1#32 := by
  after_reads_at
  rw [argmax_one]
  rfl

/-- The class-one score of voxel `n`. -/
def scoreAt (X : S2x2x96x256x256.Idx → EReal) (n : Fin 12582912) : EReal :=
  X (ix5 (⟨n.val / 6291456, by have := n.isLt; omega⟩ : Fin 2) 1 (⟨n.val / 65536 % 96, Nat.mod_lt _ (by decide)⟩ : Fin 96)
    (⟨n.val / 256 % 256, Nat.mod_lt _ (by decide)⟩ : Fin 256) (⟨n.val % 256, Nat.mod_lt _ (by decide)⟩ : Fin 256))

/-- The label of voxel `n`. -/
def labelAt (Y : S2x96x256x256.Idx → BitVec 32) (n : Fin 12582912) : BitVec 32 :=
  Y (ix4 (⟨n.val / 6291456, by have := n.isLt; omega⟩ : Fin 2) (⟨n.val / 65536 % 96, Nat.mod_lt _ (by decide)⟩ : Fin 96)
    (⟨n.val / 256 % 256, Nat.mod_lt _ (by decide)⟩ : Fin 256) (⟨n.val % 256, Nat.mod_lt _ (by decide)⟩ : Fin 256))

/-- True over any index set is true. -/
theorem fold_true {ι : Type} (s : Finset ι) : Finset.fold IntOp.andi (1#1) (fun _ => 1#1) s = 1#1 := by
  classical
  induction s using Finset.induction_on with
  | empty => rfl
  | insert a s h ih => rw [Finset.fold_insert h, ih]; rfl

/-- The gathered score of a voxel is its class-one score. -/
theorem read_v9 (n : Fin 12582912) : after opsA V (Proc.devRef .tc main_v9) (ix1 n) = scoreAt (V (Proc.devRef .tc main_arg0)) n := by
  after_reads_at
  simp only [argmax_one, show IntOp.addi 0#32 1#32 = 1#32 from rfl, show IntOp.cmpi .slt 1#32 0#32 = 0#1 from rfl,
    show ∀ x : BitVec 32, Scalar.select 0#1 x 1#32 = 1#32 from fun _ => rfl, show IntOp.cmpi .sge 1#32 0#32 = 1#1 from rfl,
    show IntOp.cmpi .sle 1#32 1#32 = 1#1 from rfl, show IntOp.andi 1#1 1#1 = 1#1 from rfl, fold_true]
  refine (if_pos rfl).trans ?_
  exact gather_one _ n

/-- The flattened label of a voxel is its label. -/
theorem read_v2 (n : Fin 12582912) : after opsA V (Proc.devRef .tc main_v2) (ix1 n) = labelAt (V (Proc.devRef .tc main_arg1)) n := by
  after_reads_at
  rfl

/-- The first stage leaves the thresholds. -/
theorem keep_arg2 : after opsA V (Proc.devRef .tc main_arg2) = V (Proc.devRef .tc main_arg2) := by
  after_reads_simp

/-- The predicted class: one over the threshold, zero elsewhere. -/
theorem read_v16 (i : Fin 10) (n : Fin 12582912) (t s : EReal) (ht : V (Proc.devRef .tc main_arg2) (ix1 i) = t)
    (hs : V (Proc.devRef .tc main_v9) (ix1 n) = s) (hp : V (Proc.devRef .tc main_v6) (ix1 n) = 1#32) :
    after opsB V (Proc.devRef .tc main_v16) (ix2 i n) = BitVec.ofNat 32 (hit s t) := by
  after_reads_at
  rw [ht, hs, hp]
  unfold hit
  by_cases h : t < s
  · rw [if_pos h, if_pos h]
  · rw [if_neg h, if_neg h]
    rfl

/-- The second stage leaves the labels. -/
theorem keep_v2 : after opsB V (Proc.devRef .tc main_v2) = V (Proc.devRef .tc main_v2) := by
  after_reads_simp

/-- The first word of an index pair: the threshold. -/
theorem read_v38_0 (i : Fin 10) (n : Fin 12582912) :
    after opsC V (Proc.devRef .tc main_v38) (ix3 i n 0) = BitVec.ofNat 32 i.val := by
  after_reads_at
  refine wrap_of_lt _ _ ?_
  have := i.isLt
  simp only [BitVec.toNat_ofNat]
  omega

/-- The second word of an index pair: twice the label plus the predicted class. -/
theorem read_v38_1 (i : Fin 10) (n : Fin 12582912) (y p : ℕ) (hy : y < 2) (hp : p < 2)
    (h2 : V (Proc.devRef .tc main_v2) (ix1 n) = BitVec.ofNat 32 y) (h16 : V (Proc.devRef .tc main_v16) (ix2 i n) = BitVec.ofNat 32 p) :
    after opsC V (Proc.devRef .tc main_v38) (ix3 i n 1) = BitVec.ofNat 32 (2 * y + p) := by
  after_reads_at
  rw [h2, h16]
  interval_cases y <;> interval_cases p <;> rfl

/-- The table of counts starts at zero. -/
theorem read_v22 (i : Fin 10) (k : Fin 4) : after opsC V (Proc.devRef .tc main_v22) (ix2 i k) = (0 : EReal) := by
  after_reads_at

/-- A scatter-add of ones at pairs (threshold, class) adds to each element how many pairs name it. -/
theorem scatter_count {T N K : ℕ} (d : ScatterDims (shape2 T K) (shape3 T N 2) (shape2 T N)) (hiw : d.insertedWindowDims = [0, 1])
    (hsd : d.scatterDimsToOperandDims = [0, 1]) (hivd : d.indexVectorDim = 2) (x : (shape2 T K).Idx → EReal) (idx : IVec (shape3 T N 2) 32)
    (upd : (shape2 T N).Idx → EReal) (i : Fin T) (k : Fin K) (code : Fin N → ℕ)
    (h0 : ∀ a n, (idx (ix3 a n 0)).toInt = (a.val : ℤ)) (h1 : ∀ n, (idx (ix3 i n 1)).toInt = (code n : ℤ)) (hu : ∀ j, upd j = 1) :
    Ideal.hostScatterAdd d x idx upd (ix2 i k) = x (ix2 i k) + cnt (∑ n, if code n = k.val then 1 else 0) := by
  refine congrArg (fun e => x (ix2 i k) + e) ?_
  rw [Finset.sum_filter, sum_idx2, Finset.sum_eq_single i, ← cnt_sum]
  · refine Finset.sum_congr rfl fun n _ => ?_
    have e := scatter_lands2 d hiw hsd hivd idx i n i k
    by_cases h : code n = k.val
    · rw [if_pos h, cnt_one]
      exact (if_pos (e.2 ⟨h0 i n, (h1 n).trans (by rw [h])⟩)).trans (hu _)
    · rw [if_neg h, cnt_zero]
      exact if_neg fun q => h (Int.ofNat_inj.1 ((h1 n).symm.trans (e.1 q).2))
  · intro a _ ha
    refine Finset.sum_eq_zero fun n _ => if_neg fun q => ha (Fin.ext ?_)
    exact Int.ofNat_inj.1 ((h0 a n).symm.trans ((scatter_lands2 d hiw hsd hivd idx a n i k).1 q).1)
  · exact fun h => absurd (Finset.mem_univ i) h

/-- A cell of a threshold's table: how many voxels have its code. -/
theorem read_v40 (i : Fin 10) (k : Fin 4) (code : Fin 12582912 → ℕ) (hx : V (Proc.devRef .tc main_v22) (ix2 i k) = (0 : EReal))
    (h0 : ∀ (a : Fin 10) n, V (Proc.devRef .tc main_v38) (ix3 a n 0) = BitVec.ofNat 32 a.val)
    (h1 : ∀ n, V (Proc.devRef .tc main_v38) (ix3 i n 1) = BitVec.ofNat 32 (code n)) (hc : ∀ n, code n < 4) :
    after opsD V (Proc.devRef .tc main_v40) (ix2 i k) = cnt (∑ n, if code n = k.val then 1 else 0) := by
  after_reads_at
  have small : ∀ c : ℕ, c < 10 → (BitVec.ofNat 32 c).toInt = (c : ℤ) := by
    intro c hc
    interval_cases c <;> rfl
  refine (scatter_count scatter_S10x4_S10x12582912x2_S10x12582912_n_01_01_2 rfl rfl rfl _ _ _ i k code ?_ ?_ ?_).trans ?_
  · intro a n
    rw [h0]
    exact small _ a.isLt
  · intro n
    rw [h1]
    exact small _ (by have := hc n; omega)
  · intro j
    pointwise
  · rw [hx, zero_add]

end Cert.ReferenceIdeal.Counts

end
-- ==== Proof.RefTail.lean ====
/- The reference's result, read off its counts. -/
module

public import proofs.«01_k».proof.Proof.RefRun

@[expose] public section

set_option maxRecDepth 16384

noncomputable section

namespace Cert.ReferenceIdeal.Counts

open Idealize.ShloMosaic Idealize.ShloMosaic.TcCoe Idealize.ShloMosaic.Tactic Idealize.ShloMosaic.StableHlo
open Idealize.SL Idealize.SL.Sem
open Cert.Counts Facts₀

/-- Ten values between two end points. -/
def line (a b : BitVec 32) (x : S10.Idx → EReal) : S12.Idx → EReal :=
  concatenate S12 0 [⟨S1, broadcastInDim S1 ![] bcast_S_S1 (constant (F := Ideal) S_ .f32 a)⟩, ⟨S10, x⟩,
    ⟨S1, broadcastInDim S1 ![] bcast_S_S1 (constant (F := Ideal) S_ .f32 b)⟩] concatenates_S1_S10_S1_S12_d0

/-- The area under the precision–recall curve, by trapezoids. -/
def area (prec rec : S10.Idx → EReal) : S_.Idx → EReal :=
  Host.absf (F := Ideal) (φ := .f32) (mulf (constant S_ .f32 1056964608#32)
    (Host.reduceAdd (F := Ideal) (φ := .f32)
      (mulf (subf (extractStridedSlice S11 ![1] (line 1065353216#32 0#32 rec) slices_S12_S11_1)
          (extractStridedSlice S11 ![0] (line 1065353216#32 0#32 rec) slices_S12_S11_0))
        (addf (extractStridedSlice S11 ![1] (line 0#32 1065353216#32 prec) slices_S12_S11_1)
          (extractStridedSlice S11 ![0] (line 0#32 1065353216#32 prec) slices_S12_S11_0)))
      (constant S_ .f32 0#32) reducesTo_S11_S_d0 h_S_))

/-- The ratio of two counts, each with the small constant added. -/
def ratio (a b : ℕ) : EReal := Ideal.div (cnt a + Ideal.ofBits .f32 869711765#32) (cnt b + Ideal.ofBits .f32 869711765#32)

variable (V : Valuation τ sig (Elt Ideal))

/-- The operations from the counts to the precisions and recalls. -/
def opsE : List (HloOp τ sig (Elt Ideal)) := (refSeq.1.drop 78).take 29
/-- The operations from the precisions and recalls to the result. -/
def opsF : List (HloOp τ sig (Elt Ideal)) := refSeq.1.drop 107

/-- A threshold's precision: its column of predicted positives is the two cells of that column. -/
theorem read_v57 (i : Fin 10) (C : Fin 4 → ℕ) (h : ∀ k, V (Proc.devRef .tc main_v40) (ix2 i k) = cnt (C k)) :
    after opsE V (Proc.devRef .tc main_v57) (ix1 i) = ratio (C 3) (C 1 + C 3) := by
  after_reads_at
  simp only [h]
  rw [Fin.sum_univ_two]
  show Ideal.div (cnt (C 3) + _) (cnt (C 3) + (cnt (C 1) + cnt (C 3) - cnt (C 3)) + _) = _
  rw [cnt_add, Nat.add_comm (C 1), cnt_sub, cnt_add]
  rfl

/-- A threshold's recall: its row of positives is the two cells of that row. -/
theorem read_v63 (i : Fin 10) (C : Fin 4 → ℕ) (h : ∀ k, V (Proc.devRef .tc main_v40) (ix2 i k) = cnt (C k)) :
    after opsE V (Proc.devRef .tc main_v63) (ix1 i) = ratio (C 3) (C 2 + C 3) := by
  after_reads_at
  simp only [h]
  rw [Fin.sum_univ_two]
  show Ideal.div (cnt (C 3) + _) (cnt (C 3) + (cnt (C 2) + cnt (C 3) - cnt (C 3)) + _) = _
  rw [cnt_add, Nat.add_comm (C 2), cnt_sub, cnt_add]
  rfl

/-- The precisions start at zero. -/
theorem read_v64 : upto opsF V 4 (Proc.devRef .tc main_v64) = broadcastInDim S1 ![] bcast_S_S1 (constant (F := Ideal) S_ .f32 0#32) := by
  show after (opsF.take 4) V _ = _
  after_reads_simp

/-- The precisions end at one. -/
theorem read_v65 : upto opsF V 4 (Proc.devRef .tc main_v65) = broadcastInDim S1 ![] bcast_S_S1 (constant (F := Ideal) S_ .f32 1065353216#32) := by
  show after (opsF.take 4) V _ = _
  after_reads_simp

/-- The precisions are left as they were. -/
theorem keep_v57 : upto opsF V 4 (Proc.devRef .tc main_v57) = V (Proc.devRef .tc main_v57) := by
  show after (opsF.take 4) V _ = _
  after_reads_simp

/-- The recalls start at one. -/
theorem read_v67 : upto opsF V 9 (Proc.devRef .tc main_v67) = broadcastInDim S1 ![] bcast_S_S1 (constant (F := Ideal) S_ .f32 1065353216#32) := by
  show after (opsF.take 9) V _ = _
  after_reads_simp

/-- The recalls end at zero. -/
theorem read_v68 : upto opsF V 9 (Proc.devRef .tc main_v68) = broadcastInDim S1 ![] bcast_S_S1 (constant (F := Ideal) S_ .f32 0#32) := by
  show after (opsF.take 9) V _ = _
  after_reads_simp

/-- The recalls are left as they were. -/
theorem keep_v63 : upto opsF V 9 (Proc.devRef .tc main_v63) = V (Proc.devRef .tc main_v63) := by
  show after (opsF.take 9) V _ = _
  after_reads_simp

/-- The result is the area under the curve of the precisions and recalls. -/
theorem read_v79 : after opsF V (Proc.devRef .tc main_v79) = area (V (Proc.devRef .tc main_v57)) (V (Proc.devRef .tc main_v63)) := by
  after_reads_simp
  dsimp only [Matrix.cons_val_zero, Matrix.cons_val_one, Matrix.cons_val]
  rw [read_v64, read_v65, read_v67, read_v68, keep_v57, keep_v63]
  rfl

end Cert.ReferenceIdeal.Counts

end
-- ==== Proof.RefResult.lean ====
/- The reference's result as a function of its arguments. -/
module

public import proofs.«01_k».proof.Proof.RefTail

@[expose] public section

set_option maxRecDepth 16384

noncomputable section

namespace Cert.ReferenceIdeal.Counts

open Idealize.ShloMosaic Idealize.ShloMosaic.TcCoe Idealize.ShloMosaic.Tactic Idealize.ShloMosaic.StableHlo
open Idealize.SL Idealize.SL.Sem
open Cert.Counts

section
variable (X : S2x2x96x256x256.Idx → EReal) (Y : S2x96x256x256.Idx → BitVec 32) (t : EReal)

/-- How many voxels score above `t`. -/
def predicted : ℕ := ∑ n, hit (scoreAt X n) t

/-- How many voxels are labelled positive. -/
def positives : ℕ := ∑ n, pos (labelAt Y n)

/-- How many voxels labelled positive score above `t`. -/
def truePos : ℕ := ∑ n, hit (scoreAt X n) t * pos (labelAt Y n)

/-- A voxel's cell of the table: twice its label plus its predicted class. -/
def code (n : Fin 12582912) : ℕ := 2 * pos (labelAt Y n) + hit (scoreAt X n) t

/-- How many voxels fall in a cell. -/
def cell (k : Fin 4) : ℕ := ∑ n, if code X Y t n = k.val then 1 else 0

/-- `pos` is zero or one. -/
theorem pos_lt (w : BitVec 32) : pos w < 2 := by unfold pos; split <;> decide
/-- `hit` is zero or one. -/
theorem hit_lt (s t : EReal) : hit s t < 2 := by unfold hit; split <;> decide

/-- The last cell holds the true positives. -/
theorem cell_three : cell X Y t 3 = truePos X Y t := by
  refine Finset.sum_congr rfl fun n _ => ?_
  unfold code
  have h1 := pos_lt (labelAt Y n)
  have h2 := hit_lt (scoreAt X n) t
  generalize pos (labelAt Y n) = p at *
  generalize hit (scoreAt X n) t = q at *
  interval_cases p <;> interval_cases q <;> rfl

/-- The cells of predicted class one hold all predicted positives. -/
theorem cell_column : cell X Y t 1 + cell X Y t 3 = predicted X t := by
  unfold cell predicted
  rw [← Finset.sum_add_distrib]
  refine Finset.sum_congr rfl fun n _ => ?_
  unfold code
  have h1 := pos_lt (labelAt Y n)
  have h2 := hit_lt (scoreAt X n) t
  generalize pos (labelAt Y n) = p at *
  generalize hit (scoreAt X n) t = q at *
  interval_cases p <;> interval_cases q <;> rfl

/-- The cells of label one hold all positives. -/
theorem cell_row : cell X Y t 2 + cell X Y t 3 = positives Y := by
  unfold cell positives
  rw [← Finset.sum_add_distrib]
  refine Finset.sum_congr rfl fun n _ => ?_
  unfold code
  have h1 := pos_lt (labelAt Y n)
  have h2 := hit_lt (scoreAt X n) t
  generalize pos (labelAt Y n) = p at *
  generalize hit (scoreAt X n) t = q at *
  interval_cases p <;> interval_cases q <;> rfl

end

/-- A list cut at five places. -/
theorem cut {α : Type} (l : List α) : l = l.take 36 ++ ((l.drop 36).take 11 ++ ((l.drop 47).take 28 ++ ((l.drop 75).take 3 ++ ((l.drop 78).take 29 ++ l.drop 107)))) := by
  have h : ∀ k n, (l.drop k).take n ++ l.drop (k + n) = l.drop k := fun k n => by rw [← List.drop_drop, List.take_append_drop]
  rw [h 78 29, h 75 3, h 47 28, h 36 11, List.take_append_drop]

variable (V : Valuation τ sig (Elt Ideal))

/-- The whole line is its six stages. -/
theorem stages : after refSeq.1 V = after opsF (after opsE (after opsD (after opsC (after opsB (after opsA V))))) := by
  conv_lhs => rw [cut refSeq.1]
  simp only [after_append]
  rfl

/-- The count of each cell, from the scores and labels, when every label is zero or one. -/
theorem cells (hY : ∀ j, V (Proc.devRef .tc main_arg1) j = 0#32 ∨ V (Proc.devRef .tc main_arg1) j = 1#32) (i : Fin 10) (k : Fin 4) :
    after opsD (after opsC (after opsB (after opsA V))) (Proc.devRef .tc main_v40) (ix2 i k)
      = cnt (cell (V (Proc.devRef .tc main_arg0)) (V (Proc.devRef .tc main_arg1)) (V (Proc.devRef .tc main_arg2) (ix1 i)) k) := by
  refine read_v40 _ i k _ (read_v22 _ i k) (fun a n => read_v38_0 _ a n) (fun n => ?_) (fun n => ?_)
  · refine read_v38_1 _ i n _ _ (pos_lt _) (hit_lt _ _) ?_ ?_
    · rw [keep_v2, read_v2]
      unfold labelAt
      rcases hY _ with h | h
      · rw [h]; rfl
      · rw [h]; rfl
    · exact read_v16 _ i n _ _ (by rw [keep_arg2]) (read_v9 V n) (read_v6 V n)
  · have h1 := pos_lt (labelAt (V (Proc.devRef .tc main_arg1)) n)
    have h2 := hit_lt (scoreAt (V (Proc.devRef .tc main_arg0)) n) (V (Proc.devRef .tc main_arg2) (ix1 i))
    unfold code
    omega

/-- The result: the area under the curve of the precisions and recalls of the counts. -/
theorem result (hY : ∀ j, V (Proc.devRef .tc main_arg1) j = 0#32 ∨ V (Proc.devRef .tc main_arg1) j = 1#32) :
    after refSeq.1 V (Proc.devRef .tc main_v79)
      = area
        (fun j => ratio (truePos (V (Proc.devRef .tc main_arg0)) (V (Proc.devRef .tc main_arg1)) (V (Proc.devRef .tc main_arg2) j))
          (predicted (V (Proc.devRef .tc main_arg0)) (V (Proc.devRef .tc main_arg2) j)))
        (fun j => ratio (truePos (V (Proc.devRef .tc main_arg0)) (V (Proc.devRef .tc main_arg1)) (V (Proc.devRef .tc main_arg2) j))
          (positives (V (Proc.devRef .tc main_arg1)))) := by
  rw [stages, read_v79]
  refine congrArg₂ area ?_ ?_
  · funext j
    obtain ⟨i, rfl⟩ : ∃ i : Fin 10, j = ix1 i := ⟨j 0, eq_ix1 j⟩
    exact (read_v57 _ i _ (cells V hY i)).trans (by rw [cell_column, cell_three])
  · funext j
    obtain ⟨i, rfl⟩ : ∃ i : Fin 10, j = ix1 i := ⟨j 0, eq_ix1 j⟩
    exact (read_v63 _ i _ (cells V hY i)).trans (by rw [cell_row, cell_three])

end Cert.ReferenceIdeal.Counts

end
-- ==== Proof.Totals.lean ====
/- The kernel's counts, summed over batches, lanes, blocks, sublanes and trips, are the counts over all voxels. -/
module

public import proofs.«01_k».proof.Proof.Array
public import proofs.«01_k».proof.Proof.RefResult

@[expose] public section

set_option maxRecDepth 16384

noncomputable section

namespace Cert.KernelIdeal.Counts

open Idealize.ShloMosaic Idealize.ShloMosaic.TcCoe Idealize.ShloMosaic.Tactic
open Idealize.SL Idealize.SL.Sem
open Gen Cert.Counts
open Cert.ReferenceIdeal.Counts (scoreAt labelAt predicted positives truePos)

/-- A sum over a batch's blocks, sublanes and trips is a sum over its rows. -/
theorem rows_total (f : Fin 24576 → ℕ) :
    ∑ s : Fin 3, ∑ r : Fin 8, ∑ q ∈ Finset.range 1024, f (rowAt s (rowOf q r)) = ∑ R, f R := by
  rw [← Fin.sum_mul_add_fin 3 8192 f]
  refine Finset.sum_congr rfl fun s _ => ?_
  show _ = ∑ k : Fin 8192, f (rowAt s k)
  rw [Finset.sum_comm, Finset.sum_range, ← Fin.sum_mul_add_fin 1024 8 (fun r : Fin 8192 => f (rowAt s r))]
  refine Finset.sum_congr rfl fun q _ => Finset.sum_congr rfl fun r _ => congrArg (fun x => f (rowAt s x)) (Fin.ext ?_)
  have := q.isLt
  have := r.isLt
  show (8 * q.val + r.val) % 8192 = q.val * 8 + r.val
  omega

/-- The position of row `R`, lane `l` of batch `b` among all voxels. -/
def flat (b : Fin 2) (R : Fin 24576) (l : Fin 256) : Fin 12582912 :=
  ⟨(b.val * 24576 + R.val) * 256 + l.val, by have := b.isLt; have := R.isLt; have := l.isLt; omega⟩

/-- A sum over all voxels is a sum over batches, lanes and rows. -/
theorem flat_total (g : Fin 12582912 → ℕ) : ∑ b, ∑ l, ∑ R, g (flat b R l) = ∑ n, g n := by
  rw [← Fin.sum_mul_add_fin 49152 256 g]
  rw [← Fin.sum_mul_add_fin 2 24576 (fun k : Fin 49152 => ∑ l : Fin 256, g ⟨k.val * 256 + l.val, by have := k.isLt; have := l.isLt; omega⟩)]
  exact Finset.sum_congr rfl fun b _ => Finset.sum_comm

/-- A voxel's score, by position or by batch, row and lane. -/
theorem score_flat (X : S2x2x96x256x256.Idx → EReal) (b : Fin 2) (R : Fin 24576) (l : Fin 256) : scoreAt X (flat b R l) = score X b R l := by
  have := b.isLt
  have := R.isLt
  have := l.isLt
  have e1 : ((b.val * 24576 + R.val) * 256 + l.val) / 6291456 = b.val := by omega
  have e2 : ((b.val * 24576 + R.val) * 256 + l.val) / 65536 % 96 = R.val / 256 := by omega
  have e3 : ((b.val * 24576 + R.val) * 256 + l.val) / 256 % 256 = R.val % 256 := by omega
  have e4 : ((b.val * 24576 + R.val) * 256 + l.val) % 256 = l.val := by omega
  unfold scoreAt score flat
  simp only [e1, e2, e3, e4]

/-- A voxel's label, by position or by batch, row and lane. -/
theorem label_flat (Y : S2x96x256x256.Idx → BitVec 32) (b : Fin 2) (R : Fin 24576) (l : Fin 256) : labelAt Y (flat b R l) = label Y b R l := by
  have := b.isLt
  have := R.isLt
  have := l.isLt
  have e1 : ((b.val * 24576 + R.val) * 256 + l.val) / 6291456 = b.val := by omega
  have e2 : ((b.val * 24576 + R.val) * 256 + l.val) / 65536 % 96 = R.val / 256 := by omega
  have e3 : ((b.val * 24576 + R.val) * 256 + l.val) / 256 % 256 = R.val % 256 := by omega
  have e4 : ((b.val * 24576 + R.val) * 256 + l.val) % 256 = l.val := by omega
  unfold labelAt label flat
  simp only [e1, e2, e3, e4]

variable (m : (ℓ : Loc nD τ sig) → Buf (Elt Ideal) ℓ) (c : Dev nD)

/-- The scores. -/
def scores : S2x2x96x256x256.Idx → EReal := m ((c.tc : Thread nD τ).loc main_arg0)
/-- The labels. -/
def labels : S2x96x256x256.Idx → BitVec 32 := m ((c.tc : Thread nD τ).loc main_arg1)
/-- The thresholds. -/
def thrs : S10.Idx → EReal := m ((c.tc : Thread nD τ).loc main_arg2)

/-- Grid point `s` of batch `b`. -/
def pt (b : Fin 2) (s : Fin 3) : Fin cfg0.N := ⟨3 * b.val + s.val, by have := b.isLt; have := s.isLt; have : cfg0.N = 6 := N_0; omega⟩

/-- A point's score block holds its rows' scores. -/
theorem iblk1_score (b : Fin 2) (s : Fin 3) (r : Fin 8192) (l : Fin 256) :
    iblk m c 1 (pt b s) (ix4 0 0 r l) = score (scores m c) b (rowAt s r) l := by
  have := s.isLt
  exact (iblk1 m c (pt b s) r l b s (by show (3 * b.val + s.val) / 3 = b.val; omega) (by show (3 * b.val + s.val) % 3 = s.val; omega)).trans
    (read_v0 m c b (rowAt s r) l)

/-- A point's label block holds its rows' labels. -/
theorem iblk2_label (b : Fin 2) (s : Fin 3) (r : Fin 8192) (l : Fin 256) :
    iblk m c 2 (pt b s) (ix3 0 r l) = label (labels m c) b (rowAt s r) l := by
  have := s.isLt
  exact (iblk2 m c (pt b s) r l b s (by show (3 * b.val + s.val) / 3 = b.val; omega) (by show (3 * b.val + s.val) % 3 = s.val; omega)).trans
    (read_v1 m c b (rowAt s r) l)

/-- What row `ρ` of the output holds in batch `b`, lane `l`. -/
def rowCount (b : Fin 2) (ρ : Fin 24) (l : Fin 256) : ℕ := ∑ s : Fin 3, pointAdd m c (pt b s) ρ l

/-- Rows 0 to 9 count the voxels above each threshold. -/
theorem pred_total (i : Fin 10) :
    ∑ b, ∑ l, rowCount m c b ⟨i.val, by have := i.isLt; omega⟩ l = predicted (scores m c) (thrs m c (ix1 i)) := by
  unfold predicted
  rw [← flat_total]
  refine Finset.sum_congr rfl fun b _ => Finset.sum_congr rfl fun l _ => ?_
  rw [← rows_total]
  refine Finset.sum_congr rfl fun s _ => ?_
  unfold pointAdd rowAdd
  rw [if_pos i.isLt]
  refine Finset.sum_congr rfl fun r _ => Finset.sum_congr rfl fun q _ => ?_
  rw [iblk1_score, iblk0, score_flat]
  have e : Fin.ofNat 10 i.val = i := Fin.ext (Nat.mod_eq_of_lt i.isLt)
  rw [e]
  rfl

/-- Rows 10 to 19 count the positive voxels above each threshold. -/
theorem true_total (i : Fin 10) :
    ∑ b, ∑ l, rowCount m c b ⟨10 + i.val, by have := i.isLt; omega⟩ l = truePos (scores m c) (labels m c) (thrs m c (ix1 i)) := by
  unfold truePos
  rw [← flat_total]
  refine Finset.sum_congr rfl fun b _ => Finset.sum_congr rfl fun l _ => ?_
  rw [← rows_total]
  refine Finset.sum_congr rfl fun s _ => ?_
  have hi := i.isLt
  unfold pointAdd rowAdd
  rw [if_neg (by dsimp only; omega), if_pos (by dsimp only; omega)]
  refine Finset.sum_congr rfl fun r _ => Finset.sum_congr rfl fun q _ => ?_
  rw [iblk1_score, iblk2_label, iblk0, score_flat, label_flat]
  have e : Fin.ofNat 10 (10 + i.val - 10) = i := Fin.ext (by show (10 + i.val - 10) % 10 = i.val; omega)
  rw [e]
  rfl

/-- Row 20 counts the positive voxels. -/
theorem pos_total : ∑ b, ∑ l, rowCount m c b 20 l = positives (labels m c) := by
  unfold positives
  rw [← flat_total]
  refine Finset.sum_congr rfl fun b _ => Finset.sum_congr rfl fun l _ => ?_
  rw [← rows_total]
  refine Finset.sum_congr rfl fun s _ => ?_
  unfold pointAdd rowAdd
  rw [if_neg (by decide), if_neg (by decide)]
  refine Finset.sum_congr rfl fun r _ => Finset.sum_congr rfl fun q _ => ?_
  rw [iblk2_label, label_flat]

end Cert.KernelIdeal.Counts

end
-- ==== Proof.Tail.lean ====
/- The kernel's result, read off its output array. -/
module

public import proofs.«01_k».proof.Proof.Gen.KernelIdeal.Launch
public import proofs.«01_k».proof.Proof.RefTail

@[expose] public section

set_option maxRecDepth 16384

noncomputable section

namespace Cert.KernelIdeal.Counts

open Idealize.ShloMosaic Idealize.ShloMosaic.TcCoe Idealize.ShloMosaic.Tactic Idealize.ShloMosaic.StableHlo
open Idealize.SL Idealize.SL.Sem
open Gen Cert.Counts
open Cert.ReferenceIdeal.Counts (area ratio line)

variable (V : Valuation τ sig (Elt Ideal))

/-- The operations from the output array to the precisions and recalls. -/
def opsP : List (HloOp τ sig (Elt Ideal)) := hostOps1.take 24
/-- The operations from the precisions and recalls to the result. -/
def opsQ : List (HloOp τ sig (Elt Ideal)) := hostOps1.drop 24

/-- A sum over the batches and lanes of one row. -/
theorem sum_row (x : S2x10x256.Idx → EReal) (i : Fin 10) :
    Ideal.hostReduceAdd Gen.reducesTo_S2x10x256_S10_d0_2 x 0 (ix1 i) = ∑ b : Fin 2, ∑ l : Fin 256, x (ix3 b i l) := by
  refine (zero_add _).trans ((Finset.sum_filter_eq_sum_of_fiber _ (fun k : Fin 2 × Fin 256 => ix3 k.1 i k.2)
    (fun _ _ e => Prod.ext (congrFun e 0) (congrFun e 2)) (fun j => ?_) x).trans ?_)
  rotate_left
  · exact Fintype.sum_prod_type _
  constructor
  · intro e
    refine ⟨(j 0, j 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- A threshold's precision, from the counts in the output array. -/
theorem read_v14 (i : Fin 10) (N : Fin 2 → Fin 24 → Fin 256 → ℕ)
    (h : ∀ b (ρ : Fin 24), ρ.val ≤ 20 → ∀ l, V (Proc.devRef .tc main_v2) (ix3 b ρ l) = cnt (N b ρ l)) :
    after opsP V (Proc.devRef .tc main_v14) (ix1 i)
      = ratio (∑ b, ∑ l, N b ⟨10 + i.val, by have := i.isLt; omega⟩ l) (∑ b, ∑ l, N b ⟨i.val, by have := i.isLt; omega⟩ l) := by
  after_reads_at
  rw [sum_row, sum_row]
  pointwise
  simp only [ratio, ← cnt_sum]
  have := i.isLt
  exact congrArg₂ (fun a b : EReal => Ideal.div (a + Ideal.ofBits FTy.f32 869711765#32) (b + Ideal.ofBits FTy.f32 869711765#32))
    (Fin.sum_fin_congr fun b => Fin.sum_fin_congr fun l => h b _ (by dsimp only; omega) l)
    (Fin.sum_fin_congr fun b => Fin.sum_fin_congr fun l => h b _ (by dsimp only; omega) l)

/-- A threshold's recall, from the counts in the output array. -/
theorem read_v19 (i : Fin 10) (N : Fin 2 → Fin 24 → Fin 256 → ℕ)
    (h : ∀ b (ρ : Fin 24), ρ.val ≤ 20 → ∀ l, V (Proc.devRef .tc main_v2) (ix3 b ρ l) = cnt (N b ρ l)) :
    after opsP V (Proc.devRef .tc main_v19) (ix1 i)
      = ratio (∑ b, ∑ l, N b ⟨10 + i.val, by have := i.isLt; omega⟩ l) (∑ b, ∑ l, N b 20 l) := by
  after_reads_at
  rw [sum_row]
  pointwise
  simp only [ratio, ← cnt_sum]
  have := i.isLt
  exact congrArg₂ (fun a b : EReal => Ideal.div (a + Ideal.ofBits FTy.f32 869711765#32) (b + Ideal.ofBits FTy.f32 869711765#32))
    (Fin.sum_fin_congr fun b => Fin.sum_fin_congr fun l => h b _ (by dsimp only; omega) l)
    (Fin.sum_fin_congr fun b => Fin.sum_fin_congr fun l => h b _ (by decide) l)

/-- The precisions start at zero. -/
theorem read_v20 : upto opsQ V 4 (Proc.devRef .tc main_v20) = broadcastInDim S1 ![] bcast_S_S1 (constant (F := Ideal) S_ .f32 0#32) := by
  show after (opsQ.take 4) V _ = _
  after_reads_simp

/-- The precisions end at one. -/
theorem read_v21 : upto opsQ V 4 (Proc.devRef .tc main_v21) = broadcastInDim S1 ![] bcast_S_S1 (constant (F := Ideal) S_ .f32 1065353216#32) := by
  show after (opsQ.take 4) V _ = _
  after_reads_simp

/-- The precisions are left as they were. -/
theorem keep_v14 : upto opsQ V 4 (Proc.devRef .tc main_v14) = V (Proc.devRef .tc main_v14) := by
  show after (opsQ.take 4) V _ = _
  after_reads_simp

/-- The recalls start at one. -/
theorem read_v23 : upto opsQ V 9 (Proc.devRef .tc main_v23) = broadcastInDim S1 ![] bcast_S_S1 (constant (F := Ideal) S_ .f32 1065353216#32) := by
  show after (opsQ.take 9) V _ = _
  after_reads_simp

/-- The recalls end at zero. -/
theorem read_v24 : upto opsQ V 9 (Proc.devRef .tc main_v24) = broadcastInDim S1 ![] bcast_S_S1 (constant (F := Ideal) S_ .f32 0#32) := by
  show after (opsQ.take 9) V _ = _
  after_reads_simp

/-- The recalls are left as they were. -/
theorem keep_v19 : upto opsQ V 9 (Proc.devRef .tc main_v19) = V (Proc.devRef .tc main_v19) := by
  show after (opsQ.take 9) V _ = _
  after_reads_simp

/-- The result is the area under the curve of the precisions and recalls. -/
theorem read_v35 : after opsQ V (Proc.devRef .tc main_v35) = area (V (Proc.devRef .tc main_v14)) (V (Proc.devRef .tc main_v19)) := by
  after_reads_simp
  dsimp only [Matrix.cons_val_zero, Matrix.cons_val_one, Matrix.cons_val]
  rw [read_v20, read_v21, read_v23, read_v24, keep_v14, keep_v19]
  rfl

end Cert.KernelIdeal.Counts

end
-- ==== Proof.Result.lean ====
/- The kernel's result as a function of its arguments. -/
module

public import proofs.«01_k».proof.Proof.Totals
public import proofs.«01_k».proof.Proof.Tail

@[expose] public section

set_option maxRecDepth 16384

noncomputable section

namespace Cert.KernelIdeal.Counts

open Idealize.ShloMosaic Idealize.ShloMosaic.TcCoe Idealize.ShloMosaic.Tactic Idealize.ShloMosaic.StableHlo
open Idealize.SL Idealize.SL.Sem
open Gen Cert.Counts
open Cert.ReferenceIdeal.Counts (area ratio predicted positives truePos)

variable (m : (ℓ : Loc nD τ sig) → Buf (Elt Ideal) ℓ) (c : Dev nD)

/-- The two stages are the whole line. -/
theorem stages (V : Valuation τ sig (Elt Ideal)) : after hostOps1 V = after opsQ (after opsP V) := by
  conv_lhs => rw [← List.take_append_drop 24 (hostOps1 : List (HloOp τ sig (Elt Ideal)))]
  simp only [after_append]
  rfl

/-- The result: the area under the curve of the precisions and recalls of the counts. -/
theorem result :
    Pipeline.afterTail₀ cfgs (dats m) 0 (V0 m) [hostOps1] c main_v35
      = area (fun j => ratio (truePos (scores m c) (labels m c) (thrs m c j)) (predicted (scores m c) (thrs m c j)))
        (fun j => ratio (truePos (scores m c) (labels m c) (thrs m c j)) (positives (labels m c))) := by
  unfold Pipeline.afterTail₀
  rw [show [(hostOps1 : List (HloOp τ sig (Elt Ideal)))].flatten = hostOps1 from List.append_nil _, stages, read_v35]
  have h : ∀ b (ρ : Fin 24), ρ.val ≤ 20 → ∀ l,
      Pipeline.withArrays (cfgs 0).spec c (V0 m c) (fun w => (dats m 0 c).arrAt w (cfgs 0).N) (Proc.devRef .tc main_v2) (ix3 b ρ l)
        = cnt (rowCount m c b ρ l) := by
    intro b ρ hρ l
    exact (congrFun (Pipeline.withArrays_arr (cfgs 0).spec winFacts0.arr_inj c (V0 m c) (fun w => (dats m 0 c).arrAt w (cfgs 0).N) 3) (ix3 b ρ l)).trans
      (arr_out m c b ρ hρ l)
  refine congrArg₂ area ?_ ?_
  · funext j
    obtain ⟨i, rfl⟩ : ∃ i : Fin 10, j = ix1 i := ⟨j 0, eq_ix1 j⟩
    exact (read_v14 _ i _ h).trans (by rw [true_total, pred_total])
  · funext j
    obtain ⟨i, rfl⟩ : ∃ i : Fin 10, j = ix1 i := ⟨j 0, eq_ix1 j⟩
    exact (read_v19 _ i _ h).trans (by rw [true_total, pos_total])

end Cert.KernelIdeal.Counts

end
-- ==== Proof.Runs.lean ====
/- The two programs' runs: each ends with the same function of its arguments in its result and its arguments as they were. -/
module

public import proofs.«01_k».proof.Proof.Result

@[expose] public section

set_option maxRecDepth 16384

noncomputable section

open Idealize.ShloMosaic Idealize.ShloMosaic.TcCoe Idealize.ShloMosaic.Tactic Idealize.ShloMosaic.StableHlo
open Idealize.SL Idealize.SL.Sem

namespace Cert.ReferenceIdeal.Counts

/-- The area under the curve of the scores `X` and labels `Y` at the thresholds `T`. -/
def auc (X : S2x2x96x256x256.Idx → EReal) (Y : S2x96x256x256.Idx → BitVec 32) (T : S10.Idx → EReal) : S_.Idx → EReal :=
  area (fun j => ratio (truePos X Y (T j)) (predicted X (T j))) (fun j => ratio (truePos X Y (T j)) (positives Y))

variable (m : (ℓ : Loc nD τ sig) → Buf (Elt Ideal) ℓ) (g : Dev nD → PrngReg)

/-- The reference ends with the area in its result, when every label is zero or one. -/
theorem run (hY : ∀ (c : Dev nD) j, m ((c.tc : Thread nD τ).loc main_arg1) j = 0#32 ∨ m ((c.tc : Thread nD τ).loc main_arg1) j = 1#32) :
    θ_run (defs (F := Ideal)) (onTc (τ := τ) (main (F := Ideal))) ⟨m, fun _ => 0, g⟩ (fun r => ∀ c : Dev nD,
      r.2.mem ((c.tc : Thread nD τ).loc main_v79)
          = auc (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run (defs (F := Ideal)) _ _).mono ?_ (run_hlo _ _ refSeq.2 (by decide) (by decide) (by unfold refSeq; simp)
    (by unfold refSeq; intro _ h; (repeat (cases h with | head => rfl | tail _ h => ?_)); exact nomatch h) m g)
  intro r h c
  refine ⟨?_, ?_, ?_, ?_⟩
  · rw [h c main_v79]
    exact result (launchContents m c) (hY c)
  · rw [h c main_arg0]
    after_reads_simp
  · rw [h c main_arg1]
    after_reads_simp
  · rw [h c main_arg2]
    after_reads_simp

end Cert.ReferenceIdeal.Counts

namespace Cert.KernelIdeal.Counts

open Cert.ReferenceIdeal.Counts (auc)

variable (m : (ℓ : Loc nD τ sig) → Buf (Elt Ideal) ℓ) (g : Dev nD → PrngReg)

/-- The kernel ends with the area in its result. -/
theorem run :
    θ_run (defs (F := Ideal)) (onTc (τ := τ) (main (F := Ideal))) ⟨m, fun _ => 0, g⟩ (fun r => ∀ c : Dev nD,
      r.2.mem ((c.tc : Thread nD τ).loc main_v35)
          = auc (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run (defs (F := Ideal)) _ _).mono
    (fun _ h c => ⟨((h.1 c).2 main_v35 (Pipeline.mem_restRefs_of _ rfl (by decide))).trans (result m c), h.2 c⟩)
    (θ_run_and (Gen.run_main m g) (Gen.unchanged m g))

end Cert.KernelIdeal.Counts

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Runs
public import Idealize.ShloMosaic.Lib.Claim
public import Idealize.ShloMosaic.Lib.Quiescent
public import Idealize.ShloMosaic.Lib.ReduceAll

@[expose] public section

set_option maxRecDepth 16384

noncomputable section

namespace Cert.Proof

open Idealize.ShloMosaic Idealize.SL.Sem

/-- The side conditions of the precondition's operations. -/
theorem preFacts : Cert.Pre_binary_labels.Facts where
  bcast_S_S2x96x256x256 := by decide
  reducesTo_S2x96x256x256_S_d0_1_2_3 := by decide
  h_S_ := by decide

/-- What the precondition says: every label is zero or one. -/
theorem labels_binary [Cert.Pre_binary_labels.Facts] (X : Cert.Pre_binary_labels.S2x2x96x256x256.Idx → EReal)
    (Y : Cert.Pre_binary_labels.S2x96x256x256.Idx → BitVec 32) (T : Cert.Pre_binary_labels.S10.Idx → EReal)
    (h : Cert.Pre_binary_labels.fn (F := Ideal) X Y T = fun _ => 1#1) (j : Cert.Pre_binary_labels.S2x96x256x256.Idx) :
    Y j = 0#32 ∨ Y j = 1#32 := by
  have e := congrFun h (fun a => a.elim0)
  dsimp only [Cert.Pre_binary_labels.fn] at e
  have : Subsingleton Cert.Pre_binary_labels.S_.Idx := ⟨fun a b => funext fun i => i.elim0⟩
  have e' := Host.reduce_andi_all _ _ _ _ _ e j
  change BitVec.ofBool (Y j == 0#32) ||| BitVec.ofBool (Y j == 1#32) = 1#1 at e'
  by_cases h0 : Y j = 0#32
  · exact Or.inl h0
  · by_cases h1 : Y j = 1#32
    · exact Or.inr h1
    · rw [beq_eq_false_iff_ne.2 h0, beq_eq_false_iff_ne.2 h1] at e'
      exact absurd e' (by decide)

/-- The reference runs to its end and leaves its arguments as they were. -/
theorem reference_frame : Cert.quiescent_ReferenceIdeal := by
  intro m g _
  hlo_run
  · exact fun _ => ⟨trivial, trivial, trivial⟩
  · exact sem_eq_zero_of_no_sems (sig := Cert.ReferenceIdeal.sig) (by decide) _

/-- The kernel and the reference end with equal results, when every label is zero or one. -/
theorem same_results : Cert.algebraic_KernelIdeal_ReferenceIdeal_pre_binary_labels (hPre_binary_labels := preFacts) := by
  intro m g m' g' hpre hagree
  haveI := preFacts
  refine ⟨_, Cert.KernelIdeal.Counts.run m g, (θ_run (Cert.ReferenceIdeal.defs (F := Ideal)) _ _).mono ?_
    (Cert.ReferenceIdeal.Counts.run m' g' fun c => ?_)⟩
  · intro r h c
    obtain ⟨h0, h1, h2⟩ := hagree c
    refine ⟨(h c).1.trans ?_, (h c).2⟩
    rw [h0, h1, h2]
  · obtain ⟨_, h1, _⟩ := hagree c
    rw [h1]
    exact labels_binary _ _ _ (hpre c)

/-- The three programs run to their end and leave their arguments as they were, the idealized kernel is the kernel's own
program, and it computes what the reference computes. -/
theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  same_results⟩

end Cert.Proof

end
